-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16x16x4x32x32 : Shape := ⟨6, ![2, 16, 16, 4, 32, 32]⟩
abbrev S128x16x4x3x3 : Shape := ⟨5, ![128, 16, 4, 3, 3]⟩
abbrev S128 : Shape := ⟨1, ![128]⟩
abbrev S16 : Shape := ⟨1, ![16]⟩
abbrev S_ : Shape := ⟨0, ![]⟩

class Facts : Prop where
  bcast_S_S128x16x4x3x3 : S_.BroadcastsInDim S128x16x4x3x3 (![] : Fin 0 → Fin S128x16x4x3x3.rank)
  reducesTo_S128x16x4x3x3_S_d0_1_2_3_4 : S128x16x4x3x3.ReducesTo [0, 1, 2, 3, 4] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x16x16x4x32x32 .f32) (main_arg1 : FVec F S128x16x4x3x3 .f32) (main_arg2 : FVec F S128 .f32) (main_arg3 : FVec F S16 .f32) (main_arg4 : FVec F S16 .f32) : IVec S_ 1 :=
  let main_v0 : FVec F S128x16x4x3x3 .f32 := Host.absf main_arg1
  let main_cst : FVec F S_ .f32 := constant S_ .f32 0x7F800000#32
  let main_v1 : FVec F S128x16x4x3x3 .f32 := broadcastInDim S128x16x4x3x3 ![] bcast_S_S128x16x4x3x3 main_cst
  let main_v2 : IVec S128x16x4x3x3 1 := cmpf .olt main_v0 main_v1
  let main_c : IVec S_ 1 := constantI S_ 1 1#1
  let main_v3 : IVec S_ 1 := (fun x v => Host.reduce IntOp.andi x v reducesTo_S128x16x4x3x3_S_d0_1_2_3_4 h_S_) main_v2 main_c
  let main_v4 : FVec F S16 .f32 := Host.absf main_arg3
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S2x16x16x4x32x32 : Shape := ⟨6, ![2, 16, 16, 4, 32, 32]⟩
abbrev S128x16x4x3x3 : Shape := ⟨5, ![128, 16, 4, 3, 3]⟩
abbrev S128 : Shape := ⟨1, ![128]⟩
abbrev S16 : Shape := ⟨1, ![16]⟩
abbrev S128x576 : Shape := ⟨2, ![128, 576]⟩
abbrev S1x128 : Shape := ⟨2, ![1, 128]⟩
abbrev S2x128x4x256 : Shape := ⟨4, ![2, 128, 4, 256]⟩
abbrev S2x8x16x4x16x16 : Shape := ⟨6, ![2, 8, 16, 4, 16, 16]⟩
abbrev S1x8x16x4x32x32 : Shape := ⟨6, ![1, 8, 16, 4, 32, 32]⟩
abbrev S1x128x4x256 : Shape := ⟨4, ![1, 128, 4, 256]⟩
abbrev S34x34x64 : Shape := ⟨3, ![34, 34, 64]⟩
abbrev S512x584 : Shape := ⟨2, ![512, 584]⟩
abbrev S576x584 : Shape := ⟨2, ![576, 584]⟩
abbrev S128x584 : Shape := ⟨2, ![128, 584]⟩
abbrev S128x128 : Shape := ⟨2, ![128, 128]⟩
abbrev S128x1 : Shape := ⟨2, ![128, 1]⟩
abbrev S512x1 : Shape := ⟨2, ![512, 1]⟩
abbrev S8x16x4x32x32 : Shape := ⟨5, ![8, 16, 4, 32, 32]⟩
abbrev S8x64x32x32 : Shape := ⟨4, ![8, 64, 32, 32]⟩
abbrev S64x32x32 : Shape := ⟨3, ![64, 32, 32]⟩
abbrev S32x32x64 : Shape := ⟨3, ![32, 32, 64]⟩
abbrev S512x8 : Shape := ⟨2, ![512, 8]⟩
abbrev S512 : Shape := ⟨1, ![512]⟩
abbrev S16x16x64 : Shape := ⟨3, ![16, 16, 64]⟩
abbrev S512x64 : Shape := ⟨2, ![512, 64]⟩
abbrev S256x64 : Shape := ⟨2, ![256, 64]⟩
abbrev S512x256 : Shape := ⟨2, ![512, 256]⟩
abbrev S4x128x256 : Shape := ⟨3, ![4, 128, 256]⟩
abbrev S128x256 : Shape := ⟨2, ![128, 256]⟩
abbrev S1x128x256 : Shape := ⟨3, ![1, 128, 256]⟩
abbrev S128x4x256 : Shape := ⟨3, ![128, 4, 256]⟩

abbrev nBuf : Space → Nat
  | .hbm => 9
  | .vmem => 10
  | .smem => 0
  | _ => 0

abbrev bufTy : (tb : Table) → Fin (tcTables nBuf tb) → BufTy
  | .hbm, ⟨0, _⟩ => ⟨S2x16x16x4x32x32, .f32⟩
  | .hbm, ⟨1, _⟩ => ⟨S128x16x4x3x3, .f32⟩
  | .hbm, ⟨2, _⟩ => ⟨S128, .f32⟩
  | .hbm, ⟨3, _⟩ => ⟨S16, .f32⟩
  | .hbm, ⟨4, _⟩ => ⟨S16, .f32⟩
  | .hbm, ⟨5, _⟩ => ⟨S128x576, .f32⟩
  | .hbm, ⟨6, _⟩ => ⟨S1x128, .f32⟩
  | .hbm, ⟨7, _⟩ => ⟨S2x128x4x256, .f32⟩
  | .hbm, ⟨8, _⟩ => ⟨S2x8x16x4x16x16, .f32⟩
  | .local _ .vmem, ⟨0, _⟩ => ⟨S1x8x16x4x32x32, .f32⟩
  | .local _ .vmem, ⟨1, _⟩ => ⟨S1x8x16x4x32x32, .f32⟩
  | .local _ .vmem, ⟨2, _⟩ => ⟨S1x8x16x4x32x32, .f32⟩
  | .local _ .vmem, ⟨3, _⟩ => ⟨S1x8x16x4x32x32, .f32⟩
  | .local _ .vmem, ⟨4, _⟩ => ⟨S128x576, .f32⟩
  | .local _ .vmem, ⟨5, _⟩ => ⟨S1x128, .f32⟩
  | .local _ .vmem, ⟨6, _⟩ => ⟨S1x128x4x256, .f32⟩
  | .local _ .vmem, ⟨7, _⟩ => ⟨S1x128x4x256, .f32⟩
  | .local _ .vmem, ⟨8, _⟩ => ⟨S34x34x64, .f32⟩
  | .local _ .vmem, ⟨9, _⟩ => ⟨S512x584, .f32⟩
  | _, _ => ⟨S2x16x16x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_1 (i : grid0.Coords) : Fin 6 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c1_i32.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x16x4x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x16x4x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x16x16x4x32x32 : Shape := ⟨6, ![2, 16, 16, 4, 32, 32]⟩
abbrev S128x16x4x3x3 : Shape := ⟨5, ![128, 16, 4, 3, 3]⟩
abbrev S128 : Shape := ⟨1, ![128]⟩
abbrev S16 : Shape := ⟨1, ![16]⟩
abbrev S32x64x32x32 : Shape := ⟨4, ![32, 64, 32, 32]⟩
abbrev S128x16x1x3x3 : Shape := ⟨5, ![128, 16, 1, 3, 3]⟩
abbrev S128x16x3x3x3 : Shape := ⟨5, ![128, 16, 3, 3, 3]⟩
abbrev S128x16x2x3x3 : Shape := ⟨5, ![128, 16, 2, 3, 3]⟩
abbrev S128x16x16x3x3 : Shape := ⟨5, ![128, 16, 16, 3, 3]⟩
abbrev S128x16x4x4x3x3 : Shape := ⟨6, ![128, 16, 4, 4, 3, 3]⟩
abbrev S128x4x3x3x16x4 : Shape := ⟨6, ![128, 4, 3, 3, 16, 4]⟩
abbrev S512x576 : Shape := ⟨2, ![512, 576]⟩
abbrev S_ : Shape := ⟨0, ![]⟩
abbrev S32x64x34x34 : Shape := ⟨4, ![32, 64, 34, 34]⟩
abbrev S32x64x16x34 : Shape := ⟨4, ![32, 64, 16, 34]⟩
abbrev S32x192x16x34 : Shape := ⟨4, ![32, 192, 16, 34]⟩
abbrev S32x192x16x16 : Shape := ⟨4, ![32, 192, 16, 16]⟩
abbrev S32x576x16x16 : Shape := ⟨4, ![32, 576, 16, 16]⟩
abbrev S32x16x16x512 : Shape := ⟨4, ![32, 16, 16, 512]⟩
abbrev S32x512x16x16 : Shape := ⟨4, ![32, 512, 16, 16]⟩
abbrev S32x128x4x16x16 : Shape := ⟨5, ![32, 128, 4, 16, 16]⟩
abbrev S1x128x1x1x1 : Shape := ⟨5, ![1, 128, 1, 1, 1]⟩
abbrev S2x16x8x16x4x16x16 : Shape := ⟨7, ![2, 16, 8, 16, 4, 16, 16]⟩
abbrev S2x8x4x16x16x16x16 : Shape := ⟨7, ![2, 8, 4, 16, 16, 16, 16]⟩
abbrev S2x8x4x16x16x16 : Shape := ⟨6, ![2, 8, 4, 16, 16, 16]⟩
abbrev S2x8x4x16x16x16x1 : Shape := ⟨7, ![2, 8, 4, 16, 16, 16, 1]⟩
abbrev S1x1x1x1x1x1x16 : Shape := ⟨7, ![1, 1, 1, 1, 1, 1, 16]⟩
abbrev S2x8x4x16x16x16x10 : Shape := ⟨7, ![2, 8, 4, 16, 16, 16, 10]⟩
abbrev S2x8x4x16x16x16x10x1 : Shape := ⟨8, ![2, 8, 4, 16, 16, 16, 10, 1]⟩
abbrev S2x16x8x1x4x16x16 : Shape := ⟨7, ![2, 16, 8, 1, 4, 16, 16]⟩
abbrev S2x8x16x4x16x16 : Shape := ⟨6, ![2, 8, 16, 4, 16, 16]⟩
abbrev S2x8x16x16x16 : Shape := ⟨5, ![2, 8, 16, 16, 16]⟩
abbrev S2x8x16x1x16x16 : Shape := ⟨6, ![2, 8, 16, 1, 16, 16]⟩

abbrev nBuf : Space → Nat
  | .hbm => 122
  | .vmem => 0
  | .smem => 0
  | _ => 0

abbrev bufTy : (tb : Table) → Fin (tcTables nBuf tb) → BufTy
  | .hbm, ⟨0, _⟩ => ⟨S2x16x16x4x32x32, .f32⟩
  | .hbm, ⟨1, _⟩ => ⟨S128x16x4x3x3, .f32⟩
  | .hbm, ⟨2, _⟩ => ⟨S128, .f32⟩
  | .hbm, ⟨3, _⟩ => ⟨S16, .f32⟩
  | .hbm, ⟨4, _⟩ => ⟨S16, .f32⟩
  | .hbm, ⟨5, _⟩ => ⟨S32x64x32x32, .f32⟩
  | .hbm, ⟨6, _⟩ => ⟨S128x16x4x3x3, .f32⟩
  | .hbm, ⟨7, _⟩ => ⟨S128x16x4x3x3, .f32⟩
  | .hbm, ⟨8, _⟩ => ⟨S128x16x4x3x3, .f32⟩
  | .hbm, ⟨9, _⟩ => ⟨S128x16x4x3x3, .f32⟩
  | .hbm, ⟨10, _⟩ => ⟨S128x16x4x3x3, .f32⟩
  | .hbm, ⟨11, _⟩ => ⟨S128x16x1x3x3, .f32⟩
  | .hbm, ⟨12, _⟩ => ⟨S128x16x3x3x3, .f32⟩
  | .hbm, ⟨13, _⟩ => ⟨S128x16x2x3x3, .f32⟩
  | .hbm, ⟨14, _⟩ => ⟨S128x16x2x3x3, .f32⟩
  | .hbm, ⟨15, _⟩ => ⟨S128x16x3x3x3, .f32⟩
  | .hbm, ⟨16, _⟩ => ⟨S128x16x1x3x3, .f32⟩
  | .hbm, ⟨17, _⟩ => ⟨S128x16x16x3x3, .f32⟩
  | .hbm, ⟨18, _⟩ => ⟨S128x16x4x4x3x3, .f32⟩
  | .hbm, ⟨19, _⟩ => ⟨S128x4x3x3x16x4, .f32⟩
  | .hbm, ⟨20, _⟩ => ⟨S512x576, .f32⟩
  | .hbm, ⟨21, _⟩ => ⟨S_, .f32⟩
  | .hbm, ⟨22, _⟩ => ⟨S32x64x34x34, .f32⟩
  | .hbm, ⟨23, _⟩ => ⟨S32x64x16x34, .f32⟩
  | .hbm, ⟨24, _⟩ => ⟨S32x64x16x34, .f32⟩
  | .hbm, ⟨25, _⟩ => ⟨S32x64x16x34, .f32⟩
  | .hbm, ⟨26, _⟩ => ⟨S32x192x16x34, .f32⟩
  | .hbm, ⟨27, _⟩ => ⟨S32x192x16x16, .f32⟩
  | .hbm, ⟨28, _⟩ => ⟨S32x192x16x16, .f32⟩
  | .hbm, ⟨29, _⟩ => ⟨S32x192x16x16, .f32⟩
  | .hbm, ⟨30, _⟩ => ⟨S32x576x16x16, .f32⟩
  | .hbm, ⟨31, _⟩ => ⟨S32x16x16x512, .f32⟩
  | .hbm, ⟨32, _⟩ => ⟨S32x512x16x16, .f32⟩
  | .hbm, ⟨33, _⟩ => ⟨S32x128x4x16x16, .f32⟩
  | .hbm, ⟨34, _⟩ => ⟨S1x128x1x1x1, .f32⟩
  | .hbm, ⟨35, _⟩ => ⟨S32x128x4x16x16, .f32⟩
  | .hbm, ⟨36, _⟩ => ⟨S32x128x4x16x16, .f32⟩
  | .hbm, ⟨37, _⟩ => ⟨S2x16x8x16x4x16x16, .f32⟩
  | .hbm, ⟨38, _⟩ => ⟨S2x8x4x16x16x16x16, .f32⟩
  | .hbm, ⟨39, _⟩ => ⟨S_, .f32⟩
  | .hbm, ⟨40, _⟩ => ⟨S2x8x4x16x16x16, .f32⟩
  | .hbm, ⟨41, _⟩ => ⟨S2x8x4x16x16x16x1, .f32⟩
  | .hbm, ⟨42, _⟩ => ⟨S_, .f32⟩
  | .hbm, ⟨43, _⟩ => ⟨S2x8x4x16x16x16x1, .f32⟩
  | .hbm, ⟨44, _⟩ => ⟨S2x8x4x16x16x16x1, .f32⟩
  | .hbm, ⟨45, _⟩ => ⟨S2x8x4x16x16x16x16, .f32⟩
  | .hbm, ⟨46, _⟩ => ⟨S2x8x4x16x16x16x16, .f32⟩
  | .hbm, ⟨47, _⟩ => ⟨S2x8x4x16x16x16x16, .f32⟩
  | .hbm, ⟨48, _⟩ => ⟨S_, .f32⟩
  | .hbm, ⟨49, _⟩ => ⟨S2x8x4x16x16x16, .f32⟩
  | .hbm, ⟨50, _⟩ => ⟨S2x8x4x16x16x16x1, .f32⟩
  | .hbm, ⟨51, _⟩ => ⟨S_, .f32⟩
  | .hbm, ⟨52, _⟩ => ⟨S2x8x4x16x16x16x1, .f32⟩
  | .hbm, ⟨53, _⟩ => ⟨S2x8x4x16x16x16x1, .f32⟩
  | .hbm, ⟨54, _⟩ => ⟨S_, .f32⟩
  | .hbm, ⟨55, _⟩ => ⟨S2x8x4x16x16x16x1, .f32⟩
  | .hbm, ⟨56, _⟩ => ⟨S2x8x4x16x16x16x1, .f32⟩
  | .hbm, ⟨57, _⟩ => ⟨S2x8x4x16x16x16x1, .f32⟩
  | .hbm, ⟨58, _⟩ => ⟨S2x8x4x16x16x16x16, .f32⟩
  | .hbm, ⟨59, _⟩ => ⟨S2x8x4x16x16x16x16, .f32⟩
  | .hbm, ⟨60, _⟩ => ⟨S1x1x1x1x1x1x16, .f32⟩
  | .hbm, ⟨61, _⟩ => ⟨S2x8x4x16x16x16x16, .f32⟩
  | .hbm, ⟨62, _⟩ => ⟨S2x8x4x16x16x16x16, .f32⟩
  | .hbm, ⟨63, _⟩ => ⟨S1x1x1x1x1x1x16, .f32⟩
  | .hbm, ⟨64, _⟩ => ⟨S2x8x4x16x16x16x16, .f32⟩
  | .hbm, ⟨65, _⟩ => ⟨S2x8x4x16x16x16x16, .f32⟩
  | .hbm, ⟨66, _⟩ => ⟨S2x8x4x16x16x16x16, .f32⟩
  | .hbm, ⟨67, _⟩ => ⟨S2x8x4x16x16x16x16, .f32⟩
  | .hbm, ⟨68, _⟩ => ⟨S_, .f32⟩
  | .hbm, ⟨69, _⟩ => ⟨S2x8x4x16x16x16, .f32⟩
  | .hbm, ⟨70, _⟩ => ⟨S2x8x4x16x16x16x1, .f32⟩
  | .hbm, ⟨71, _⟩ => ⟨S_, .f32⟩
  | .hbm, ⟨72, _⟩ => ⟨S2x8x4x16x16x16x1, .f32⟩
  | .hbm, ⟨73, _⟩ => ⟨S2x8x4x16x16x16x1, .f32⟩
  | .hbm, ⟨74, _⟩ => ⟨S2x8x4x16x16x16x16, .f32⟩
  | .hbm, ⟨75, _⟩ => ⟨S2x8x4x16x16x16x16, .f32⟩
  | .hbm, ⟨76, _⟩ => ⟨S_, .f32⟩
  | .hbm, ⟨77, _⟩ => ⟨S2x8x4x16x16x16, .f32⟩
  | .hbm, ⟨78, _⟩ => ⟨S2x8x4x16x16x16x10, .f32⟩
  | .hbm, ⟨79, _⟩ => ⟨S2x8x4x16x16x16x10, .i32⟩
  | .hbm, ⟨80, _⟩ => ⟨S2x8x4x16x16x16x10x1, .i32⟩
  | .hbm, ⟨81, _⟩ => ⟨S2x8x4x16x16x16x10, .f32⟩
  | .hbm, ⟨82, _⟩ => ⟨S_, .f32⟩
  | .hbm, ⟨83, _⟩ => ⟨S2x8x4x16x16x16, .f32⟩
  | .hbm, ⟨84, _⟩ => ⟨S_, .f32⟩
  | .hbm, ⟨85, _⟩ => ⟨S2x8x4x16x16x16, .f32⟩
  | .hbm, ⟨86, _⟩ => ⟨S2x8x4x16x16x16, .f32⟩
  | .hbm, ⟨87, _⟩ => ⟨S2x8x4x16x16x16x10x1, .i32⟩
  | .hbm, ⟨88, _⟩ => ⟨S2x8x4x16x16x16x10, .f32⟩
  | .hbm, ⟨89, _⟩ => ⟨S_, .f32⟩
  | .hbm, ⟨90, _⟩ => ⟨S2x8x4x16x16x16, .f32⟩
  | .hbm, ⟨91, _⟩ => ⟨S_, .f32⟩
  | .hbm, ⟨92, _⟩ => ⟨S2x8x4x16x16x16, .f32⟩
  | .hbm, ⟨93, _⟩ => ⟨S2x8x4x16x16x16, .f32⟩
  | .hbm, ⟨94, _⟩ => ⟨S2x8x4x16x16x16x1, .f32⟩
  | .hbm, ⟨95, _⟩ => ⟨S2x8x4x16x16x16x1, .f32⟩
  | .hbm, ⟨96, _⟩ => ⟨S_, .f32⟩
  | .hbm, ⟨97, _⟩ => ⟨S2x8x4x16x16x16, .f32⟩
  | .hbm, ⟨98, _⟩ => ⟨S2x8x4x16x16x16x1, .f32⟩
  | .hbm, ⟨99, _⟩ => ⟨S2x8x4x16x16x16x1, .f32⟩
  | .hbm, ⟨100, _⟩ => ⟨S2x16x8x1x4x16x16, .f32⟩
  | .hbm, ⟨101, _⟩ => ⟨S2x16x8x16x4x16x16, .f32⟩
  | .hbm, ⟨102, _⟩ => ⟨S2x16x8x16x4x16x16, .f32⟩
  | .hbm, ⟨103, _⟩ => ⟨S_, .f32⟩
  | .hbm, ⟨104, _⟩ => ⟨S2x8x16x4x16x16, .f32⟩
  | .hbm, ⟨105, _⟩ => ⟨S2x8x16x4x16x16, .f32⟩
  | .hbm, ⟨106, _⟩ => ⟨S_, .f32⟩
  | .hbm, ⟨107, _⟩ => ⟨S2x8x16x16x16, .f32⟩
  | .hbm, ⟨108, _⟩ => ⟨S2x8x16x1x16x16, .f32⟩
  | .hbm, ⟨109, _⟩ => ⟨S2x8x16x1x16x16, .f32⟩
  | .hbm, ⟨110, _⟩ => ⟨S2x8x16x1x16x16, .f32⟩
  | .hbm, ⟨111, _⟩ => ⟨S2x8x16x1x16x16, .f32⟩
  | .hbm, ⟨112, _⟩ => ⟨S_, .f32⟩
  | .hbm, ⟨113, _⟩ => ⟨S2x8x16x1x16x16, .f32⟩
  | .hbm, ⟨114, _⟩ => ⟨S2x8x16x1x16x16, .f32⟩
  | .hbm, ⟨115, _⟩ => ⟨S2x8x16x1x16x16, .f32⟩
  | .hbm, ⟨116, _⟩ => ⟨S_, .f32⟩
  | .hbm, ⟨117, _⟩ => ⟨S2x8x16x1x16x16, .f32⟩
  | .hbm, ⟨118, _⟩ => ⟨S2x8x16x1x16x16, .f32⟩
  | .hbm, ⟨119, _⟩ => ⟨S2x8x16x1x16x16, .f32⟩
  | .hbm, ⟨120, _⟩ => ⟨S2x8x16x4x16x16, .f32⟩
  | .hbm, ⟨121, _⟩ => ⟨S2x8x16x4x16x16, .f32⟩
  | _, _ => ⟨S2x16x16x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_values : Ref sig .tc := ⟨.hbm, 78, rfl⟩
abbrev main_indices : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_15 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_16 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Proof.Step.lean ====
/- What one grid step of the kernel computes, as functions of the values it loads: the weights matrix that the first
   step builds, the padded image a step leaves in its scratch, and the block it stores. -/
module

public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The lane number, at every entry of a selection matrix. -/
abbrev lanes : IVec S576x584 32 := iota .tc S576x584 32 [1] iota_S576x584_d1_w32
/-- The row number, at every entry of a selection matrix. -/
abbrev rows : IVec S576x584 32 := iota .tc S576x584 32 [0] iota_S576x584_d0_w32
/-- The tap's row, of each lane. -/
abbrev tapRow : IVec S576x584 32 := k0_pay4
/-- The tap's column, of each lane. -/
abbrev tapCol : IVec S576x584 32 := k0_pay7 lanes 64#32 k0_pay5 k0_pay6 (Scalar.cmpi .sgt 64#32 0#32)
/-- The capsule's channel, of each lane. -/
abbrev chan : IVec S576x584 32 := k0_pay11 (k0_pay8 lanes) (k0_pay9 lanes) (k0_pay10 lanes)
/-- The capsule's rotation, of each lane. -/
abbrev rot : IVec S576x584 32 := k0_pay12 lanes

/-- The rotated filters' block of the weights matrix, for rotation 0. -/
abbrev block0 (w : Vec F S128x576 .f32) : FVec F S128x584 .f32 :=
  k0_pay14 (k0_pay3 w) lanes rows tapRow tapCol chan (k0_pay13 lanes)
/-- The same for rotation 1. -/
abbrev block1 (w : Vec F S128x576 .f32) : FVec F S128x584 .f32 :=
  k0_pay16 (k0_pay3 w) lanes rows tapRow tapCol chan (Scalar.select (Scalar.cmpi .eq 4#32 0#32) 1#32 4#32) (k0_pay15 rot) 0#32
/-- The same for rotation 2. -/
abbrev block2 (w : Vec F S128x576 .f32) : FVec F S128x584 .f32 :=
  k0_pay20 (k0_pay3 w) lanes rows tapRow tapCol chan (Scalar.select (Scalar.cmpi .eq 4#32 0#32) 1#32 4#32) (k0_pay17 rot) (k0_pay18 rot) (k0_pay19 rot)

/-- The weights matrix the first step leaves: the four rotations' blocks one over another, and the bias in the last
    eight columns. -/
def weights (w : Vec F S128x576 .f32) (b : Vec F S1x128 .f32) : FVec F S512x584 .f32 :=
  k0_pay25 (k0_pay24 (k0_pay3 w) lanes rows tapRow tapCol chan (block0 w) (block1 w) (block2 w)
    (Scalar.select (Scalar.cmpi .eq 4#32 0#32) 1#32 4#32) (k0_pay21 rot) (k0_pay22 rot) (k0_pay23 rot)
    (Scalar.cmpi .slt (Scalar.select (Scalar.cmpi .eq 4#32 0#32) 1#32 4#32) 0#32) b)

/-- The padded image: `P`, with the sum over the input capsules in its interior. -/
def padded (P : Vec F S34x34x64 .f32) (x y : Vec F S1x8x16x4x32x32 .f32) : Vec F S34x34x64 .f32 :=
  VecWindow.put P ![1, 1, 0] S32x32x64.size (k0_pay26 x y)

/-- One tap's pixels of the padded image `Q`: every other row and column, from row `a` and column `b`. -/
def tap (Q : Vec F S34x34x64 .f32) (a b : ℕ) (h : ∀ i, S16x16x64.size i = 0 ∨ (![a, b, 0] : Fin 3 → ℕ) i + (![2, 2, 1] : Fin 3 → ℕ) i * (S16x16x64.size i - 1) < S34x34x64.size i) :
    Vec F S16x16x64 .f32 :=
  fun y => Q ((⟨![a, b, 0], S16x16x64.size, ![2, 2, 1], h⟩ : LoadRect S34x34x64).idx y)

/-- Sixty-four columns of the weights matrix `W`, from column `o`. -/
def cols (W : Vec F S512x584 .f32) (o : ℕ) (h : ∀ i, (![0, o] : Fin 2 → ℕ) i + S512x64.size i ≤ S512x584.size i) : Vec F S512x64 .f32 :=
  fun y => W ((Rect.unit (s := S512x584) ![0, o] S512x64.size h).toLoadRect.idx y)

/-- The bias columns of the weights matrix `W`. -/
def biasCols (W : Vec F S512x584 .f32) : Vec F S512x8 .f32 :=
  fun y => W ((Rect.unit (s := S512x584) ![0, 576] S512x8.size inb_S512x584_S512x8_0_576).toLoadRect.idx y)

/-- The block a step stores, from the padded image `Q` and the weights matrix `W`. -/
def block (Q : Vec F S34x34x64 .f32) (W : Vec F S512x584 .f32) : FVec F S1x128x4x256 .f32 :=
  k0_pay1
    (k0_pay28
      (k0_pay27 (biasCols W) (tap Q 0 0 inb_S34x34x64_S16x16x64_0_0_0_s_2_2_1) (cols W 0 inb_S512x584_S512x64_0_0))
      (tap Q 0 1 inb_S34x34x64_S16x16x64_0_1_0_s_2_2_1) (cols W 64 inb_S512x584_S512x64_0_64)
      (tap Q 0 2 inb_S34x34x64_S16x16x64_0_2_0_s_2_2_1) (cols W 128 inb_S512x584_S512x64_0_128)
      (tap Q 1 0 inb_S34x34x64_S16x16x64_1_0_0_s_2_2_1) (cols W 192 inb_S512x584_S512x64_0_192)
      (tap Q 1 1 inb_S34x34x64_S16x16x64_1_1_0_s_2_2_1) (cols W 256 inb_S512x584_S512x64_0_256)
      (tap Q 1 2 inb_S34x34x64_S16x16x64_1_2_0_s_2_2_1) (cols W 320 inb_S512x584_S512x64_0_320))
    (cols W 384 inb_S512x584_S512x64_0_384) (k0_pay29 (tap Q 2 0 inb_S34x34x64_S16x16x64_2_0_0_s_2_2_1))
    (constant S512x256 .f32 0x00000000#32)
    (tap Q 2 1 inb_S34x34x64_S16x16x64_2_1_0_s_2_2_1) (cols W 448 inb_S512x584_S512x64_0_448)
    (tap Q 2 2 inb_S34x34x64_S16x16x64_2_2_0_s_2_2_1) (cols W 512 inb_S512x584_S512x64_0_512)

end Cert.KernelIdeal.Hand

end
-- ==== Proof.BodyRun.lean ====
/- The kernel body, run at the first grid step and at a later one: what it leaves in its scratch buffers and in the
   output's staging buffer, as the functions of `Step`. -/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: taken at the first step only. -/
abbrev first (i : grid0.Coords) : Prop :=
  (Scalar.cmpi .ne (Scalar.extui (Scalar.cmpi .eq (BitVec.ofNat 32 (i 0).val) 0#32)) 0#32) = 1#1

/-- The taps that start in row 1 or 2 and column 1 or 2 read the interior only. -/
theorem tap_covered (v : View sig .tc .vmem S34x34x64 .f32) (f : v.ty.Contents (Elt F)) (w : S32x32x64.Idx → Elt F .f32) (L : List (View.Piece (Elt F) S34x34x64 .f32))
    (a b : ℕ) (h : ∀ i, S16x16x64.size i = 0 ∨ (![a, b, 0] : Fin 3 → ℕ) i + (![2, 2, 1] : Fin 3 → ℕ) i * (S16x16x64.size i - 1) < S34x34x64.size i)
    (ha : 1 ≤ a ∧ a ≤ 2) (hb : 1 ≤ b ∧ b ≤ 2) :
    v.readCov (⟨Rect.unit (s := S34x34x64) ![1, 1, 0] S32x32x64.size inb_S34x34x64_S32x32x64_1_1_0, w⟩ :: L)
        (⟨![a, b, 0], S16x16x64.size, ![2, 2, 1], h⟩ : LoadRect S34x34x64)
      = v.readAt (Elt F) (⟨![a, b, 0], S16x16x64.size, ![2, 2, 1], h⟩ : LoadRect S34x34x64)
          (v.writes (Elt F) f (⟨Rect.unit (s := S34x34x64) ![1, 1, 0] S32x32x64.size inb_S34x34x64_S32x32x64_1_1_0, w⟩ :: L)) := by
  refine (View.readAt_writes_of_cover v f _ _ fun j => ⟨_, List.mem_cons_self, ?_⟩).symm
  rw [Rect.mem_set_unit]
  have h0 : (j 0).val < 16 := (j 0).isLt
  have h1 : (j 1).val < 16 := (j 1).isLt
  have h2 : (j 2).val < 64 := (j 2).isLt
  intro i
  fin_cases i
  · show 1 ≤ a + 2 * (j 0).val ∧ a + 2 * (j 0).val < 1 + 32
    omega
  · show 1 ≤ b + 2 * (j 1).val ∧ b + 2 * (j 1).val < 1 + 32
    omega
  · show 0 ≤ 0 + 1 * (j 2).val ∧ 0 + 1 * (j 2).val < 0 + 64
    omega

set_option maxHeartbeats 2000000 in
/-- A later step: the scratch holds the padded image `P` and the weights matrix `W`. -/
theorem run_later (c : Dev nD) (i : grid0.Coords) (arg1 : Memref sig .tc .vmem S1x8x16x4x32x32 .f32) (harg1 : arg1.IsWhole) (arg2 : Memref sig .tc .vmem S1x8x16x4x32x32 .f32) (harg2 : arg2.IsWhole) (arg3 : Memref sig .tc .vmem S128x576 .f32) (harg3 : arg3.IsWhole) (arg4 : Memref sig .tc .vmem S1x128 .f32) (harg4 : arg4.IsWhole) (arg5 : Memref sig .tc .vmem S1x128x4x256 .f32) (harg5 : arg5.IsWhole) (arg6 : Memref sig .tc .vmem S34x34x64 .f32) (harg6 : arg6.IsWhole) (arg7 : Memref sig .tc .vmem S512x584 .f32) (harg7 : arg7.IsWhole) (hc0 : ¬first i)
    (x0 : Vec F S1x8x16x4x32x32 .f32) (x1 : Vec F S1x8x16x4x32x32 .f32) (x2 : Vec F S128x576 .f32) (x3 : Vec F S1x128 .f32) (P : Vec F S34x34x64 .f32) (W : Vec F S512x584 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare P ∗ owns (c : Thread nD τ) arg7 fullShare W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (block (padded P x0 x1) W) ∗ owns (c : Thread nD τ) arg6 fullShare (padded P x0 x1) ∗ owns (c : Thread nD τ) arg7 fullShare W) -∗ K ⟨⟩))
          ⊢ wp frame (wpE (defs₀ (F := F)) Variants.none c none) E (cc0__conv_squash_body i arg1 harg1 arg2 harg2 arg3 harg3 arg4 harg4 arg5 harg5 arg6 harg6 arg7 harg7) K := by
    intro E K
    simp only [cc0__conv_squash_body_eq_skeleton]; unfold cc0__conv_squash_body_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | sl_exact hc0)
    sl_step
    iapply Hk
    have hp : View.read (Elt F) arg6.view (arg6.view.writes (Elt F) (harg6.unread P) (run_later.sl.HS0_1 c arg1 harg1 arg2 harg2 x0 x1)) = padded P x0 x1 := by
      unfold run_later.sl.HS0_1
      rw [View.read_writes_cons_put _ _ _ _ _ rfl, View.writes_nil, harg6.read_unread, View.readAt_full, View.readAt_full, harg1.read_unread, harg2.read_unread]
      rfl
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_full]
      have hw : ∀ B : LoadRect S512x584, View.readAt (Elt F) arg7.view B (harg7.unread W) = fun y => W (B.idx y) := fun B =>
        funext fun y => harg7.readAt_unread W B y
      have ht : ∀ B : LoadRect S34x34x64, View.readAt (Elt F) arg6.view B (arg6.view.writes (Elt F) (harg6.unread P) (run_later.sl.HS0_1 c arg1 harg1 arg2 harg2 x0 x1)) = fun y => padded P x0 x1 (B.idx y) := fun B =>
        funext fun y => congrFun hp (B.idx y)
      unfold block
      have hc : ∀ (a b : ℕ) (h : ∀ i, S16x16x64.size i = 0 ∨ (![a, b, 0] : Fin 3 → ℕ) i + (![2, 2, 1] : Fin 3 → ℕ) i * (S16x16x64.size i - 1) < S34x34x64.size i),
          1 ≤ a ∧ a ≤ 2 → 1 ≤ b ∧ b ≤ 2 →
          arg6.view.readCov (run_later.sl.HS0_1 c arg1 harg1 arg2 harg2 x0 x1) (⟨![a, b, 0], S16x16x64.size, ![2, 2, 1], h⟩ : LoadRect S34x34x64)
            = tap (padded P x0 x1) a b h := fun a b h ha hb => (tap_covered _ _ _ _ a b h ha hb).trans (ht _)
      unfold run_later.sl.r_1 run_later.sl.r_2 run_later.sl.r_3 run_later.sl.r run_later.sl.v19 run_later.sl.v25 run_later.sl.v30 run_later.sl.v35
        run_later.sl.v40 run_later.sl.v45 run_later.sl.v50 run_later.sl.v55 run_later.sl.v60 run_later.sl.cst_51
      simp only [ht, hw,
        hc 1 1 _ (by decide) (by decide), hc 1 2 _ (by decide) (by decide), hc 2 1 _ (by decide) (by decide), hc 2 2 _ (by decide) (by decide)]
      rfl
    isplitl [HS0]
    · iexists _; isplitr; swap; · iexact HS0
      ipureintro; exact hp
    iexists _; isplitr; swap; · iexact HS1
    ipureintro; exact harg7.read_unread _
set_option maxHeartbeats 2000000 in
/-- The first step: it clears the padded image and builds the weights matrix. -/
theorem run_first (c : Dev nD) (i : grid0.Coords) (arg1 : Memref sig .tc .vmem S1x8x16x4x32x32 .f32) (harg1 : arg1.IsWhole) (arg2 : Memref sig .tc .vmem S1x8x16x4x32x32 .f32) (harg2 : arg2.IsWhole) (arg3 : Memref sig .tc .vmem S128x576 .f32) (harg3 : arg3.IsWhole) (arg4 : Memref sig .tc .vmem S1x128 .f32) (harg4 : arg4.IsWhole) (arg5 : Memref sig .tc .vmem S1x128x4x256 .f32) (harg5 : arg5.IsWhole) (arg6 : Memref sig .tc .vmem S34x34x64 .f32) (harg6 : arg6.IsWhole) (arg7 : Memref sig .tc .vmem S512x584 .f32) (harg7 : arg7.IsWhole) (hc0 : first i)
    (x0 : Vec F S1x8x16x4x32x32 .f32) (x1 : Vec F S1x8x16x4x32x32 .f32) (x2 : Vec F S128x576 .f32) (x3 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (block (padded (k0_pay2 (F := F)) x0 x1) (weights x2 x3)) ∗ owns (c : Thread nD τ) arg6 fullShare (padded (k0_pay2 (F := F)) x0 x1) ∗ owns (c : Thread nD τ) arg7 fullShare (weights x2 x3)) -∗ K ⟨⟩))
          ⊢ wp frame (wpE (defs₀ (F := F)) Variants.none c none) E (cc0__conv_squash_body i arg1 harg1 arg2 harg2 arg3 harg3 arg4 harg4 arg5 harg5 arg6 harg6 arg7 harg7) K := by
    intro E K
    simp only [cc0__conv_squash_body_eq_skeleton]; unfold cc0__conv_squash_body_skel
    simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    have hp : ∀ f, View.read (Elt F) arg6.view (arg6.view.writes (Elt F) f (run_first.sl.HS0_2 c arg1 harg1 arg2 harg2 x0 x1)) = padded (k0_pay2 (F := F)) x0 x1 := by
      intro f
      unfold run_first.sl.HS0_2
      rw [View.read_writes_cons_put _ _ _ _ _ rfl]
      rw [View.read_writes_full, View.readAt_full, View.readAt_full, harg1.read_unread, harg2.read_unread]
      rfl
    have hW : ∀ f, View.read (Elt F) arg7.view (arg7.view.writes (Elt F) f (run_first.sl.HS1_1 c arg3 harg3 arg4 harg4 x2 x3)) = weights x2 x3 := by
      intro f
      unfold run_first.sl.HS1_1
      rw [View.read_writes_full]
      unfold run_first.sl.r_4 run_first.sl.r run_first.sl.r_1 run_first.sl.r_2 run_first.sl.r_3 run_first.sl.r
        run_first.sl.v88 run_first.sl.v89 run_first.sl.v153 run_first.sl.v193 run_first.sl.v209
      rw [show View.readAt (Elt F) arg3.view (Rect.unit (s := S128x576) ![0, 0] ![128, 576] inb_S128x576_S128x576_0_0).toLoadRect (harg3.unread x2) = x2 from
          (View.readAt_full _ _ _).trans (harg3.read_unread _),
        show View.readAt (Elt F) arg4.view (Rect.unit (s := S1x128) ![0, 0] ![1, 128] inb_S1x128_S1x128_0_0).toLoadRect (harg4.unread x3) = x3 from
          (View.readAt_full _ _ _).trans (harg4.read_unread _)]
      rfl
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_full]
      have hw : ∀ B : LoadRect S512x584, arg7.view.readCov (run_first.sl.HS1_1 c arg3 harg3 arg4 harg4 x2 x3) B = fun y => weights x2 x3 (B.idx y) := fun B =>
        funext fun y => congrFun (hW _) (B.idx y)
      have ht : ∀ B : LoadRect S34x34x64, arg6.view.readCov (run_first.sl.HS0_2 c arg1 harg1 arg2 harg2 x0 x1) B = fun y => padded (k0_pay2 (F := F)) x0 x1 (B.idx y) := fun B =>
        funext fun y => congrFun (hp _) (B.idx y)
      unfold block
      unfold run_first.sl.r_6 run_first.sl.r_7 run_first.sl.r_5
      unfold run_first.sl.v16 run_first.sl.v19 run_first.sl.v20 run_first.sl.v25 run_first.sl.v26 run_first.sl.v30 run_first.sl.v31 run_first.sl.v35 run_first.sl.v36 run_first.sl.v40 run_first.sl.v41 run_first.sl.v45 run_first.sl.v46 run_first.sl.v50 run_first.sl.v51 run_first.sl.v55 run_first.sl.v56 run_first.sl.v60 run_first.sl.v61 run_first.sl.cst_51
      simp only [ht, hw]
      rfl
    isplitl [HS0]
    · iexists _; isplitr; swap; · iexact HS0
      ipureintro; exact hp _
    iexists _; isplitr; swap; · iexact HS1
    ipureintro; exact hW _

end Cert.KernelIdeal.Hand

end
-- ==== Proof.KernelRun.lean ====
/- The kernel's run: the proof data of its two grid steps — what each leaves in the output's staging buffer, and what
   the scratch buffers hold between them — and the run of the whole program from any memory. -/
module

public import proofs.«01_k».proof.Proof.BodyRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the first point only. -/
theorem first_iff : ∀ t : Fin cfg0.N, first (grid0.coords t) ↔ t.val = 0 :=
  (fun t => by
    have ht : t.val < 2 := Nat.lt_of_lt_of_eq t.isLt N_0
    have e0 : (grid0.coords t 0).val = t.val / 1 % 2 := Pipeline.Grid.coords_val t 0 (by decide) rfl
    have e1 : t.val / 1 % 2 = t.val := by omega
    simp only [first, e0, e1]
    word_cmp
   : ∀ t : Fin grid0.N, first (grid0.coords t) ↔ t.val = 0)

/-- Filling the interior a second time leaves the second filling. -/
theorem padded_padded (P : Vec F S34x34x64 .f32) (x y x' y' : Vec F S1x8x16x4x32x32 .f32) :
    padded (padded P x y) x' y' = padded P x' y' := by
  funext j
  unfold padded VecWindow.put
  by_cases h : ∀ a, (![1, 1, 0] : Fin 3 → ℕ) a ≤ (j a).val ∧ (j a).val < (![1, 1, 0] : Fin 3 → ℕ) a + S32x32x64.size a
  · rw [dif_pos h, dif_pos h]
  · rw [dif_neg h, dif_neg h, dif_neg h]

/-- The staging memrefs at a point, as the pipeline passes them. -/
abbrev stg0 (t : Fin cfg0.N) : Memref sig .tc .vmem S1x8x16x4x32x32 .f32 := win0_0.stage (cfg0.slots t 0)
abbrev stg1 (t : Fin cfg0.N) : Memref sig .tc .vmem S1x8x16x4x32x32 .f32 := win0_1.stage (cfg0.slots t 1)
abbrev stg2 (t : Fin cfg0.N) : Memref sig .tc .vmem S128x576 .f32 := win0_2.stage (cfg0.slots t 2)
abbrev stg3 (t : Fin cfg0.N) : Memref sig .tc .vmem S1x128 .f32 := win0_3.stage (cfg0.slots t 3)
abbrev stg4 (t : Fin cfg0.N) : Memref sig .tc .vmem S1x128x4x256 .f32 := win0_4.stage (cfg0.slots t 4)
/-- The padded image's buffer and the weights matrix's. -/
abbrev padBuf : Memref sig .tc .vmem S34x34x64 .f32 := Memref.whole cc0_scratch0
abbrev wBuf : Memref sig .tc .vmem S512x584 .f32 := Memref.whole cc0_scratch1

/-- The scratch buffers at some contents, and the generator's register. -/
theorem scratch_eq (c : Dev nD) :
    (Pipeline.ΦA spec0 c : sProp 𝕄)
      = iprop(iprop((∃ d, owns (c : Thread nD τ) padBuf fullShare d) ∗ (∃ d, owns (c : Thread nD τ) wBuf fullShare d)) ∗ (∃ r, prngReg c r)) := by
  unfold Pipeline.ΦA; rw [scopedRest0_eq]; simp only [padBuf, wBuf, owns_whole]; try rfl

/-- The weights matrix, from the filters and the bias that the first point stages. -/
def W (c : Dev nD) : FVec F S512x584 .f32 := weights (iblk m c 2 t0_0) (iblk m c 3 t0_0)

/-- The padded image at a point. -/
def image (c : Dev nD) (t : Fin cfg0.N) : Vec F S34x34x64 .f32 := padded (k0_pay2 (F := F)) (iblk m c 0 t) (iblk m c 1 t)

/-- What the scratch holds after the first point: an image with a zero border, and the weights matrix. -/
def tracked (c : Dev nD) : sProp 𝕄 :=
  iprop(iprop((∃ x y, owns (c : Thread nD τ) padBuf fullShare (padded (k0_pay2 (F := F)) x y)) ∗ owns (c : Thread nD τ) wBuf fullShare (W m c)) ∗ (∃ r, prngReg c r))

/-- Tracked contents are some contents. -/
theorem tracked_scratch (c : Dev nD) : tracked m c ⊢ (Pipeline.ΦA spec0 c : sProp 𝕄) := by
  rw [scratch_eq]; unfold tracked
  iintro ⟨⟨⟨%x, %y, H0⟩, H1⟩, Hg⟩
  isplitr [Hg]; swap; · iexact Hg
  isplitl [H0]
  · iexists _; iexact H0
  iexists _; iexact H1

/-- The proof data: inputs left at their blocks, the output's block stored, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (image m c t) (W m c)
  Φ k := if k.val = 0 then Pipeline.ΦA spec0 c else tracked m c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block (image m c t) (W m c) := by dsimp only [dats]

/-- Before the first point the scratch holds anything, -/
theorem held_first (c : Dev nD) (k : Fin (cfg0.N + 1)) (h : k.val = 0) : (dats m 0 c).Φ k = Pipeline.ΦA spec0 c := by
  dsimp only [dats]; exact if_pos h
/-- and after it, what is tracked. -/
theorem held_later (c : Dev nD) (k : Fin (cfg0.N + 1)) (h : k.val ≠ 0) : (dats m 0 c).Φ k = tracked m c := by
  dsimp only [dats]; exact if_neg h

/-- Each input's staging buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [held_later m c t.succ (Nat.succ_ne_zero t.val),
    show (dats m 0 c).owesAt () t.succ = (dats m 0 c).owesAt () t.castSucc from rfl,
    after_0, after_1, after_2, after_3, after_4]
  by_cases h0 : t.val = 0
  · obtain rfl : t = t0_0 := Fin.ext h0
    rw [held_first m c t0_0.castSucc rfl, scratch_eq]
    unfold tracked image W
    iintro ⟨⟨⟨HS0, HS1⟩, Hg⟩, Ho, ⟨%d0, H0⟩, ⟨%d1, H1⟩, ⟨%d2, H2⟩, ⟨%d3, H3⟩, ⟨%d4, H4⟩⟩
    iapply ((run_first c (grid0.coords t0_0) _ _ _ _ _ _ _ _ _ _ _ _ _ _ ((first_iff t0_0).mpr rfl) (iblk m c 0 t0_0) (iblk m c 1 t0_0) (iblk m c 2 t0_0) (iblk m c 3 t0_0)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists _, _; iexact HS0
        iexact HS1
      iexact Hg
    isplitl [Ho]; · iexact Ho
    isplitl [H0]; · iexact H0
    isplitl [H1]; · iexact H1
    isplitl [H2]; · iexact H2
    isplitl [H3]; · iexact H3
    iexact H4
  · rw [held_later m c t.castSucc h0]
    unfold tracked image
    iintro ⟨⟨⟨⟨%x, %y, HS0⟩, HS1⟩, Hg⟩, Ho, ⟨%d0, H0⟩, ⟨%d1, H1⟩, ⟨%d2, H2⟩, ⟨%d3, H3⟩, ⟨%d4, H4⟩⟩
    iapply ((run_later c (grid0.coords t) _ _ _ _ _ _ _ _ _ _ _ _ _ _ (fun h => h0 ((first_iff t).mp h)) (iblk m c 0 t) (iblk m c 1 t) (iblk m c 2 t) (iblk m c 3 t) (padded (k0_pay2 (F := F)) x y) (W m c)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    rw [padded_padded]
    iintro ⟨H0, H1, H2, H3, H4, HS0, HS1⟩
    isplitl [HS0 HS1 Hg]
    · isplitl [HS0 HS1]
      · isplitl [HS0]
        · iexists _, _; iexact HS0
        iexact HS1
      iexact Hg
    isplitl [Ho]; · iexact Ho
    isplitl [H0]; · iexact H0
    isplitl [H1]; · iexact H1
    isplitl [H2]; · iexact H2
    isplitl [H3]; · iexact H3
    iexact H4

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: the arrays end at the proof data's contents, the other buffers at what the host lines leave, and every
    semaphore counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m)
    (hin := fun c => (held_first m c 0 rfl) ▸ BIBase.Entails.rfl)
    (hout := fun c => by
      rw [show (dats m 0 c).Φ (Fin.last (cfgs 0).N) = tracked m c from held_later m c (Fin.last cfg0.N) (by rw [Fin.val_last, show cfg0.N = 2 from N_0]; decide)]
      exact tracked_scratch m c)
    (hQ' := fun _ h => h)

/-- The arguments end unchanged, and every semaphore counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.KernelFrame.lean ====
/- The kernel's run at machine words: the two printed programs are one text, and the run of KernelRun is proved of it
   whatever the floats are. -/
module

public import proofs.«01_k».proof.Defs
public import proofs.«01_k».proof.Proof.Gen.Kernel
public import proofs.«01_k».proof.Proof.KernelRun

@[expose] public section

set_option maxRecDepth 16384

noncomputable section

namespace Cert.Kernel.Hand

open Idealize.ShloMosaic Idealize.ShloMosaic.TcCoe Idealize.SL.Sem
open Cert.Kernel.Gen Cert.KernelIdeal.Gen

variable {F : FTy → Type} [FloatOps F]

/-- The two programs' kernel bodies are the same. -/
theorem bodies_eq : Cert.Kernel.defs₀ (F := F) = Cert.KernelIdeal.defs₀ (F := F) :=
  congrArg (Defs.onTc (nD := Cert.Kernel.nD) (τ := Cert.Kernel.τ) (sig := Cert.Kernel.sig) (Val := Elt F) (Λ := Cert.Kernel.Λ₀))
    (funext fun l => funext fun a => by
      match l, a with
      | ⟨0, _⟩, (t, s) => rfl)

/-- The two programs' tables are the same. -/
theorem tables_eq : Cert.Kernel.defs (F := F) = Cert.KernelIdeal.defs (F := F) :=
  congrArg (Pipeline.defs (Cert.Kernel.pcfgs (F := F))) bodies_eq

/-- The kernel at machine words ends, its arguments unchanged and its semaphore counters at zero. -/
theorem frame : Cert.quiescent_Kernel := by
  intro m g _
  rw [tables_eq]
  exact Cert.KernelIdeal.Hand.frame_main (F := Bits) m g

end Cert.Kernel.Hand

end
-- ==== Proof.Reals.lean ====
/- Extended reals that are real: sums, products and quotients of them, and where a normalisation is real. -/
module

public import Idealize.ShloMosaic.PureOps.Ideal
public import Mathlib.Algebra.BigOperators.Fin
public import Mathlib.Data.Fintype.BigOperators

@[expose] public section

noncomputable section

namespace Cert.Caps

open Idealize.ShloMosaic

/-- An extended real that is neither infinity. -/
def IsReal (x : EReal) : Prop := ∃ r : ℝ, x = (r : EReal)

theorem isReal_of_ne {x : EReal} (h : x ≠ ⊤) (h' : x ≠ ⊥) : IsReal x := ⟨x.toReal, (EReal.coe_toReal h h').symm⟩
theorem IsReal.ne_top {x : EReal} : IsReal x → x ≠ ⊤ := by rintro ⟨r, rfl⟩; exact EReal.coe_ne_top r
theorem IsReal.ne_bot {x : EReal} : IsReal x → x ≠ ⊥ := by rintro ⟨r, rfl⟩; exact EReal.coe_ne_bot r

theorem IsReal.add {x y : EReal} : IsReal x → IsReal y → IsReal (x + y) := by
  rintro ⟨r, rfl⟩ ⟨s, rfl⟩; exact ⟨r + s, (EReal.coe_add r s).symm⟩

theorem IsReal.mul {x y : EReal} : IsReal x → IsReal y → IsReal (x * y) := by
  rintro ⟨r, rfl⟩ ⟨s, rfl⟩; exact ⟨r * s, (EReal.coe_mul r s).symm⟩

theorem IsReal.zero : IsReal 0 := ⟨0, EReal.coe_zero.symm⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

/-- A quotient of reals by a positive one is real. -/
theorem IsReal.div {x y : EReal} (hx : IsReal x) (hy : IsReal y) (h : 0 < y) : IsReal (Ideal.div x y) := by
  obtain ⟨r, rfl⟩ := hy
  unfold Ideal.div
  rw [if_neg h.ne', ← EReal.coe_inv]
  exact hx.mul ⟨_, rfl⟩

/-- A quotient by the infinity is zero. -/
theorem div_top (x : EReal) : Ideal.div x ⊤ = 0 := by
  unfold Ideal.div
  rw [if_neg EReal.top_ne_zero, EReal.inv_top, mul_zero]

/-- A sum of real terms is the real sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real factor goes into a sum of reals. -/
theorem mul_sum_real {ι : Type} (s : Finset ι) (w : EReal) (f : ι → EReal) (hw : IsReal w) (hf : ∀ i ∈ s, IsReal (f i)) :
    w * ∑ i ∈ s, f i = ∑ i ∈ s, w * f i := by
  obtain ⟨r, rfl⟩ := hw
  have hg : ∀ i ∈ s, f i = ((f i).toReal : EReal) := fun i hi => (EReal.coe_toReal (hf i hi).ne_top (hf i hi).ne_bot).symm
  rw [Finset.sum_congr rfl hg, ← coe_sum, ← EReal.coe_mul, Finset.mul_sum, coe_sum]
  refine Finset.sum_congr rfl fun i hi => ?_
  rw [EReal.coe_mul, ← hg i hi]

/-- A square is not negative. -/
theorem sq_nonneg' (x : EReal) : 0 ≤ x * x := by
  induction x with
  | bot => rw [EReal.bot_mul_bot]; exact le_top
  | top => rw [EReal.top_mul_top]; exact le_top
  | coe r => rw [← EReal.coe_mul, ← EReal.coe_zero, EReal.coe_le_coe_iff]; exact mul_self_nonneg r

/-- A sum of squares is not negative. -/
theorem sum_sq_nonneg {ι : Type} (s : Finset ι) (x : ι → EReal) : 0 ≤ ∑ k ∈ s, x k * x k :=
  Finset.sum_nonneg fun k _ => sq_nonneg' (x k)

/-- A number whose square is not infinite is real. -/
theorem isReal_of_sq {x : EReal} (h : x * x ≠ ⊤) : IsReal x := by
  refine isReal_of_ne ?_ ?_ <;> rintro rfl
  · exact h EReal.top_mul_top
  · exact h EReal.bot_mul_bot

/-- Numbers whose sum of squares is not infinite are all real. -/
theorem isReal_of_sum_sq {ι : Type} [Fintype ι] {x : ι → EReal} (h : ∑ k, x k * x k ≠ ⊤) (k : ι) : IsReal (x k) := by
  refine isReal_of_sq fun hk => h (top_le_iff.mp ?_)
  rw [← hk]
  exact Finset.single_le_sum (f := fun k => x k * x k) (fun i _ => sq_nonneg' (x i)) (Finset.mem_univ k)

/-- The root of a positive real is a positive real. -/
theorem sqrt_pos {x : EReal} (hx : IsReal x) (h : 0 < x) : IsReal (Ideal.sqrt x) ∧ 0 < Ideal.sqrt x := by
  obtain ⟨r, rfl⟩ := hx
  have hr : 0 < r := EReal.coe_pos.mp h
  have e : Ideal.sqrt (r : EReal) = (Real.sqrt r : EReal) := by
    show (if r < 0 then ⊥ else (Real.sqrt r : EReal)) = _
    rw [if_neg hr.not_gt]
  rw [e]
  exact ⟨⟨_, rfl⟩, EReal.coe_pos.mpr (Real.sqrt_pos.mpr hr)⟩

/-- The root of a number that is not negative, squared, is the number, the infinity included. -/
theorem sqrt_mul_sqrt {x : EReal} (h : 0 ≤ x) : Ideal.sqrt x * Ideal.sqrt x = x := by
  induction x with
  | bot => exact absurd h (by simp)
  | top => show (⊤ : EReal) * ⊤ = ⊤; exact EReal.top_mul_top
  | coe r =>
    have hr : 0 ≤ r := EReal.coe_nonneg.mp h
    have e : Ideal.sqrt (r : EReal) = (Real.sqrt r : EReal) := by
      show (if r < 0 then ⊥ else (Real.sqrt r : EReal)) = _
      rw [if_neg hr.not_gt]
    rw [e, ← EReal.coe_mul, Real.mul_self_sqrt hr]

/-- A centred number over the root of the mean square and a positive constant is real, whatever the numbers are: where the
    mean square is infinite the quotient is zero, elsewhere the numbers are real. -/
theorem normal_real {ι : Type} [Fintype ι] (p : ι → EReal) (i : ι) {n e : EReal} (hn : IsReal n) (hn' : 0 < n)
    (he : IsReal e) (he' : 0 < e) : IsReal (Ideal.div (p i) (Ideal.sqrt (Ideal.div (∑ k, p k * p k) n + e))) := by
  by_cases h : ∑ k, p k * p k = ⊤
  · have e1 : Ideal.div ⊤ n = ⊤ := by
      obtain ⟨r, rfl⟩ := hn
      unfold Ideal.div
      rw [if_neg hn'.ne', ← EReal.coe_inv]
      exact EReal.top_mul_coe_of_pos (inv_pos.mpr (EReal.coe_pos.mp hn'))
    have e2 : (⊤ : EReal) + e = ⊤ := EReal.top_add_of_ne_bot he.ne_bot
    rw [h, e1, e2]
    show IsReal (Ideal.div (p i) ⊤)
    rw [div_top]
    exact IsReal.zero
  · have hp := isReal_of_sum_sq h
    have hs : IsReal (∑ k, p k * p k) := IsReal.sum _ _ fun k => (hp k).mul (hp k)
    have h0 : 0 ≤ Ideal.div (∑ k, p k * p k) n := by
      unfold Ideal.div
      rw [if_neg hn'.ne']
      exact mul_nonneg (sum_sq_nonneg _ p) (EReal.inv_nonneg_of_nonneg hn'.le)
    obtain ⟨h1, h2⟩ := sqrt_pos ((hs.div hn hn').add he) (he'.trans_le (le_add_of_nonneg_left h0))
    exact (hp i).div h1 h2

/-- If `u g + b` is real for real `u` and `g`, so is `b`. -/
theorem isReal_of_add {x b : EReal} (hx : IsReal x) (h : IsReal (x + b)) : IsReal b := by
  obtain ⟨r, rfl⟩ := hx
  refine isReal_of_ne ?_ ?_ <;> rintro rfl
  · exact h.ne_top (EReal.coe_add_top r)
  · exact h.ne_bot (EReal.add_bot (r : EReal))

/-- The affinity of two normalised capsules is real, whatever the shift `b`: an infinite shift makes the norm infinite,
    and the quotient by it zero. -/
theorem affinity_real {ι : Type} [Fintype ι] (x y b : ι → EReal) (hx : ∀ d, IsReal (x d)) (hy : ∀ d, IsReal (y d))
    {e : EReal} (he : IsReal e) (he' : 0 < e) :
    IsReal (Ideal.div (∑ d, (x d + b d) * (y d + b d)) (max (∑ d, (x d + b d) * (x d + b d)) e)) := by
  by_cases h : ∑ d, (x d + b d) * (x d + b d) = ⊤
  · rw [h, max_eq_left le_top, div_top]
    exact IsReal.zero
  · have hp : ∀ d, IsReal (x d + b d) := isReal_of_sum_sq (x := fun d => x d + b d) h
    have hb : ∀ d, IsReal (b d) := fun d => isReal_of_add (hx d) (hp d)
    have hm : IsReal (max (∑ d, (x d + b d) * (x d + b d)) e) := by
      rcases max_choice (∑ d, (x d + b d) * (x d + b d)) e with hc | hc <;> rw [hc]
      · exact IsReal.sum _ _ fun d => (hp d).mul (hp d)
      · exact he
    exact (IsReal.sum _ _ fun d => (hp d).mul ((hy d).add (hb d))).div hm (lt_max_of_lt_right he')

/-- The softmax over an axis of one, of a real: one. -/
theorem exp_div_exp {x : EReal} (hx : IsReal x) : Ideal.div (Ideal.exp x) (Ideal.exp x) = 1 := by
  obtain ⟨r, rfl⟩ := hx
  show Ideal.div ((Real.exp r : ℝ) : EReal) ((Real.exp r : ℝ) : EReal) = 1
  have h : ((Real.exp r : ℝ) : EReal) ≠ 0 := fun h => (Real.exp_pos r).ne' (EReal.coe_eq_zero.mp h)
  unfold Ideal.div
  rw [if_neg h, ← EReal.coe_inv, ← EReal.coe_mul, mul_inv_cancel₀ (Real.exp_pos r).ne', EReal.coe_one]

/-! The constants. -/

theorem two_f32 : Ideal.ofBits .f32 0x40000000#32 = ((2 : ℝ) : EReal) := by
  simp [Ideal.ofBits, Ideal.ieee, -EReal.coe_mul]; norm_num
theorem ten_f32 : Ideal.ofBits .f32 0x41200000#32 = ((10 : ℝ) : EReal) := by
  simp [Ideal.ofBits, Ideal.ieee, -EReal.coe_mul]; norm_num
theorem sixteen_f32 : Ideal.ofBits .f32 0x41800000#32 = ((16 : ℝ) : EReal) := by
  simp [Ideal.ofBits, Ideal.ieee, -EReal.coe_mul]; norm_num
theorem one_f32 : Ideal.ofBits .f32 0x3F800000#32 = 1 := by
  simp [Ideal.ofBits, Ideal.ieee, -EReal.coe_mul]; norm_num
theorem eps_f32 : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]
theorem tiny_f32 : ∃ r : ℝ, 0 < r ∧ Ideal.ofBits .f32 0x322BCC77#32 = (r : EReal) := by
  refine ⟨11258999 * (2 : ℝ) ^ (-50 : ℤ), by positivity, ?_⟩
  simp [Ideal.ofBits, Ideal.ieee, -EReal.coe_mul]

end Cert.Caps

end
-- ==== Proof.Precondition.lean ====
/- The precondition read back: the entries of the filters and of the norm's scale are real numbers. -/
module

public import proofs.«01_k».proof.Defs
public import proofs.«01_k».proof.Proof.Reals
public import Idealize.ShloMosaic.Lib.ReduceAll
public import Idealize.ShloMosaic.Lib.Pointwise

@[expose] public section

noncomputable section

namespace Cert.Pre_finite.Hand

open Cert.Pre_finite Idealize.ShloMosaic Cert.Caps

/-- The shape relations the precondition's operations take. -/
instance facts : Cert.Pre_finite.Facts where
  h_S_ := by decide
  bcast_S_S128x16x4x3x3 := by decide
  reducesTo_S128x16x4x3x3_S_d0_1_2_3_4 := by decide
  bcast_S_S16 := by decide
  reducesTo_S16_S_d0 := by decide

instance : Subsingleton S_.Idx := ⟨fun _ _ => funext fun k => k.elim0⟩

/-- A number whose absolute value is below infinity is real. -/
theorem real_of_lt {x : EReal} (h : Ideal.cmp .olt (max x (-x)) ⊤ = 1#1) : IsReal x := by
  have h' : max x (-x) < ⊤ := by
    unfold Ideal.cmp at h
    by_contra hc
    simp [hc] at h
  refine isReal_of_ne ?_ ?_ <;> rintro rfl <;> simp at h'

/-- The word of the precondition's bound is infinity. -/
theorem bound : (Ideal.ofBits .f32 0x7F800000#32 : EReal) = ⊤ := by
  simp [Ideal.ofBits, Ideal.ieee]

/-- An array whose absolute values are all below infinity has real entries. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : IsReal (x i) := by
  have h1 := Host.reduce_andi_all _ _ h hu j e i
  refine real_of_lt ?_
  rw [← bound]
  exact h1

/-- The two arrays that the precondition bounds have real entries. -/
theorem reals (x0 : FVec Ideal S2x16x16x4x32x32 .f32) (x1 : FVec Ideal S128x16x4x3x3 .f32) (x2 : FVec Ideal S128 .f32) (x3 x4 : FVec Ideal S16 .f32)
    (h : fn x0 x1 x2 x3 x4 = fun _ => 1#1) : (∀ i, IsReal (x1 i)) ∧ ∀ i, IsReal (x3 i) := by
  obtain ⟨h1, h3⟩ := IntOp.andi_eq_one.1 (congrFun h fun k => k.elim0)
  exact ⟨real_of_all x1 _ _ _ _ h1, real_of_all x3 _ _ _ _ h3⟩

end Cert.Pre_finite.Hand

end
-- ==== Proof.KernelArray.lean ====
/- The kernel's result array after the run: what each grid step stores, of the arguments, and the array put together. -/
module

public import proofs.«01_k».proof.Proof.KernelRun
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-- Where the windows' blocks lie. -/
theorem index0 : ∀ t : Fin grid0.N, win0_0.index t = ![t.val, 0, 0, 0, 0, 0] := by decide +kernel
theorem index1 : ∀ t : Fin grid0.N, win0_1.index t = ![t.val, 1, 0, 0, 0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0, 0, 0] := by decide +kernel

/-- The grid point of a batch entry. -/
def point (n : Fin 2) : Fin cfg0.N := n.cast N_0.symm

theorem point_val (n : Fin 2) : (point n).val = n.val := rfl

/-- The first window's block: the first eight capsules of a batch entry, -/
theorem iblk0_apply (c : Dev nD) (t : Fin cfg0.N) (n : Fin 2) (hn : n.val = t.val) (k : Fin 8) (i : Fin 16) (r : Fin 4) (h w : Fin 32) :
    iblk m c 0 t (ix6 0 k i r h w) = m ((c : Thread nD τ).loc main_arg0) (ix6 n ⟨k.val, by omega⟩ i r h w) := by
  rw [← V_main_arg0 m c]
  blk_ext [iblk, index0]
/-- the second's: the last eight, -/
theorem iblk1_apply (c : Dev nD) (t : Fin cfg0.N) (n : Fin 2) (hn : n.val = t.val) (k : Fin 8) (i : Fin 16) (r : Fin 4) (h w : Fin 32) :
    iblk m c 1 t (ix6 0 k i r h w) = m ((c : Thread nD τ).loc main_arg0) (ix6 n ⟨8 + k.val, by omega⟩ i r h w) := by
  rw [← V_main_arg0 m c]
  blk_ext [iblk, index1]
/-- the third's: the filters, flat but for the output channel, -/
theorem iblk2_apply (c : Dev nD) (t : Fin cfg0.N) (o : Fin 128) (l : Fin 576) :
    iblk m c 2 t (ix2 o l) = m ((c : Thread nD τ).loc main_arg1) (ix5 o ⟨l.val / 36, by omega⟩ ⟨l.val / 9 % 4, by omega⟩ ⟨l.val / 3 % 3, by omega⟩ ⟨l.val % 3, by omega⟩) := by
  have e : iblk m c 2 t (ix2 o l) = V m c main_call0_v0 (ix2 o l) := by
    blk_ext [iblk, index2]
  rw [e]
  unfold V
  after_reads_at
/-- and the fourth's: the bias. -/
theorem iblk3_apply (c : Dev nD) (t : Fin cfg0.N) (o : Fin 128) :
    iblk m c 3 t (ix2 0 o) = m ((c : Thread nD τ).loc main_arg2) (ix1 o) := by
  have e : iblk m c 3 t (ix2 0 o) = V m c main_call0_v1 (ix2 0 o) := by
    blk_ext [iblk, index3]
  rw [e]
  unfold V
  after_reads_at

/-- The result array: each batch entry's block. -/
theorem array_eq (c : Dev nD) :
    (dats m 0 c).arrAt 4 cfg0.N = fun j => block (image m c (point (j 0))) (W m c) (ix4 0 (j 1) (j 2) (j 3)) := by
  refine (dats m 0 c).arrAt_eq_of_covers 4 _ (by decide +kernel) fun t hf y => ?_
  blk_simp
  rw [after_4]
  obtain ⟨a, o, s, p, rfl⟩ : ∃ (a : Fin 1) (o : Fin 128) (s : Fin 4) (p : Fin 256), y = ix4 a o s p := ⟨y 0, y 1, y 2, y 3, eq_ix4 y⟩
  have e0 : point ((win0_4.blk t).view.emb (ix4 a o s p) 0) = t := Fin.ext (by
    show ((win0_4.blk t).view.emb (ix4 a o s p) 0).val = t.val
    blk_simp [index4]
    try omega)
  have e1 : ((win0_4.blk t).view.emb (ix4 a o s p) 1) = o := Fin.ext (by blk_simp [index4])
  have e2 : ((win0_4.blk t).view.emb (ix4 a o s p) 2) = s := Fin.ext (by blk_simp [index4])
  have e3 : ((win0_4.blk t).view.emb (ix4 a o s p) 3) = p := Fin.ext (by blk_simp [index4])
  rw [e0, e1, e2, e3, Subsingleton.elim a 0]

/-- The result array once the host has given it the result's shape. -/
theorem result_apply (c : Dev nD) (n : Fin 2) (a : Fin 8) (d : Fin 16) (s : Fin 4) (p q : Fin 16) :
    Pipeline.afterTail₀ cfgs (dats m) 0 (V0 m) [hostOps1] c main_v0 (ix6 n a d s p q)
      = block (image m c (point n)) (W m c) (ix4 0 ⟨16 * a.val + d.val, by omega⟩ s ⟨16 * p.val + q.val, by omega⟩) := by
  have e : Pipeline.withArrays (cfgs 0).spec c (V0 m c) (fun w => (dats m 0 c).arrAt w (cfgs 0).N) (Proc.devRef .tc main_call0_v2)
      = (dats m 0 c).arrAt 4 cfg0.N :=
    (dats m 0 c).withArrays_arrAt sharedIn0 (V0 m c) (fun w => A_eq m c w) 4
  rw [array_eq] at e
  unfold Pipeline.afterTail₀
  generalize Pipeline.withArrays (cfgs 0).spec c (V0 m c) (fun w => (dats m 0 c).arrAt w (cfgs 0).N) = U at e ⊢
  after_reads_at
  rw [e]
  simp only [Nat.mul_comm a.val, Nat.mul_comm p.val]
  rfl

end Cert.KernelIdeal.Hand

end
-- ==== Proof.Squash.lean ====
/- The squash of a capsule over its four rotations, on extended reals. -/
module

public import Idealize.ShloMosaic.PureOps.Ideal

@[expose] public section

noncomputable section

namespace Cert.Caps

open Idealize.ShloMosaic

/-- The constant that keeps the squash's quotient from zero. -/
def tiny : EReal := Ideal.ofBits .f32 0x322BCC77#32

/-- The squash: a rotation's value times `n / (1 + n) / (sqrt n + tiny)`, where `n` is the sum of the four squares. -/
def squash (y : Fin 4 → EReal) (s : Fin 4) : EReal :=
  y s * Ideal.div (Ideal.div (∑ k, y k * y k) (1 + ∑ k, y k * y k)) (Ideal.sqrt (∑ k, y k * y k) + tiny)

end Cert.Caps

end
-- ==== Proof.BlockValue.lean ====
/- The block a grid step stores, entry by entry: the nine taps' sums and the bias columns' sum, made unit-like by the
   squash over the four rotations. -/
module

public import proofs.«01_k».proof.Proof.Step
public import proofs.«01_k».proof.Proof.Squash
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Caps

/-- A tap's pixel of the padded image. -/
theorem tap_apply (Q : Vec Ideal S34x34x64 .f32) (a b : ℕ) (ha : a ≤ 2) (hb : b ≤ 2) (h) (p q : Fin 16) (c : Fin 64) :
    tap Q a b h (ix3 p q c) = Q (ix3 ⟨a + 2 * p.val, by omega⟩ ⟨b + 2 * q.val, by omega⟩ c) := by
  unfold tap
  pointwise

/-- A column of sixty-four of the weights matrix. -/
theorem cols_apply (W : Vec Ideal S512x584 .f32) (o : ℕ) (ho : o ≤ 512) (h) (r : Fin 512) (c : Fin 64) :
    cols W o h (ix2 r c) = W (ix2 r ⟨o + c.val, by omega⟩) := by
  unfold cols
  pointwise

/-- One of the bias columns. -/
theorem biasCols_apply (W : Vec Ideal S512x584 .f32) (r : Fin 512) (k : Fin 8) :
    biasCols W (ix2 r k) = W (ix2 r ⟨576 + k.val, by omega⟩) := by
  unfold biasCols
  pointwise

/-- One tap's sum over the input channels. -/
def tapSum (Q : Vec Ideal S34x34x64 .f32) (W : Vec Ideal S512x584 .f32) (a b : Fin 3) (r : Fin 512) (p : Fin 256) : EReal :=
  ∑ c : Fin 64, W (ix2 r ⟨64 * (3 * a.val + b.val) + c.val, by omega⟩) * Q (ix3 ⟨a.val + 2 * (p.val / 16), by omega⟩ ⟨b.val + 2 * (p.val % 16), by omega⟩ c)

/-- The value before the squash. -/
def linear (Q : Vec Ideal S34x34x64 .f32) (W : Vec Ideal S512x584 .f32) (r : Fin 512) (p : Fin 256) : EReal :=
  (∑ k : Fin 8, W (ix2 r ⟨576 + k.val, by omega⟩)) + tapSum Q W 0 0 r p + tapSum Q W 0 1 r p + tapSum Q W 0 2 r p
    + tapSum Q W 1 0 r p + tapSum Q W 1 1 r p + tapSum Q W 1 2 r p + tapSum Q W 2 0 r p + tapSum Q W 2 1 r p + tapSum Q W 2 2 r p

/-- The block's entry: the squash of the four rotations' values. -/
theorem block_apply (Q : Vec Ideal S34x34x64 .f32) (W : Vec Ideal S512x584 .f32) (o : Fin 128) (s : Fin 4) (p : Fin 256) :
    block Q W (ix4 0 o s p) = squash (fun k => linear Q W ⟨k.val * 128 + o.val, by omega⟩ p) s := by
  pointwise [block, k0_pay1, k0_pay28, k0_pay27, k0_pay29]
  simp only [tap_apply Q 0 0 (by decide) (by decide), tap_apply Q 0 1 (by decide) (by decide), tap_apply Q 0 2 (by decide) (by decide),
    tap_apply Q 1 0 (by decide) (by decide), tap_apply Q 1 1 (by decide) (by decide), tap_apply Q 1 2 (by decide) (by decide),
    tap_apply Q 2 0 (by decide) (by decide), tap_apply Q 2 1 (by decide) (by decide), tap_apply Q 2 2 (by decide) (by decide),
    cols_apply W 0 (by decide), cols_apply W 64 (by decide), cols_apply W 128 (by decide), cols_apply W 192 (by decide),
    cols_apply W 256 (by decide), cols_apply W 320 (by decide), cols_apply W 384 (by decide), cols_apply W 448 (by decide),
    cols_apply W 512 (by decide), biasCols_apply]
  rfl

/-- The padded image's interior is the two halves' sums. -/
theorem inner_apply (x y : Vec Ideal S1x8x16x4x32x32 .f32) (h w : Fin 32) (c : Fin 64) :
    k0_pay26 x y (ix3 h w c)
      = (∑ k : Fin 8, x (ix6 0 k ⟨c.val / 4, by omega⟩ ⟨c.val % 4, by omega⟩ h w))
        + ∑ k : Fin 8, y (ix6 0 k ⟨c.val / 4, by omega⟩ ⟨c.val % 4, by omega⟩ h w) := by
  pointwise [k0_pay26]

/-- The padded image: the sum over the capsules inside, zero on the border. -/
theorem padded_apply (x y : Vec Ideal S1x8x16x4x32x32 .f32) (h w : Fin 34) (c : Fin 64) :
    padded (k0_pay2 (F := Ideal)) x y (ix3 h w c)
      = if hi : (1 ≤ h.val ∧ h.val < 33) ∧ 1 ≤ w.val ∧ w.val < 33 then
          k0_pay26 x y (ix3 ⟨h.val - 1, by omega⟩ ⟨w.val - 1, by omega⟩ c)
        else 0 := by
  unfold padded
  rw [VecWindow.put_eq_updateSlice _ _ _ (by decide)]
  pointwise [k0_pay2]

end Cert.KernelIdeal.Hand

end
-- ==== Proof.Weights.lean ====
/- The weights matrix's entries: a row is a rotation and an output channel, a lane is a tap and an input channel, and the
   entry is the filter's entry at the tap turned back by the rotation; the last eight lanes hold twice the bias. -/
module

public import proofs.«01_k».proof.Proof.Step
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The row of the filter that rotation `s` brings to tap `(a, b)`. -/
def turnRow (s a b : ℕ) : ℕ := match s with | 0 => a | 1 => b | 2 => 2 - a | _ => 2 - b
/-- The column of the filter that rotation `s` brings to tap `(a, b)`. -/
def turnCol (s a b : ℕ) : ℕ := match s with | 0 => b | 1 => 2 - a | 2 => 2 - b | _ => a
/-- The column of the flat filters that rotation `s` brings to lane `l`. -/
def srcOf (s l : ℕ) : ℕ :=
  l % 64 / 4 * 36 + (l % 4 + 4 - s) % 4 * 9 + turnRow s (l / 192) (l / 64 % 3) * 3 + turnCol s (l / 192) (l / 64 % 3)

/-- It lies among the flat filters. -/
theorem srcOf_lt : ∀ (s : Fin 4) (l : Fin 584), l.val < 576 → srcOf s.val l.val < 576 := by decide +kernel

theorem tapRow_apply (k : Fin 576) (l : Fin 584) : tapRow (ix2 k l) = BitVec.ofNat 32 (l.val / 192) := by
  pointwise [tapRow, k0_pay4]
  revert l; decide +kernel
theorem tapCol_apply (k : Fin 576) (l : Fin 584) : tapCol (ix2 k l) = BitVec.ofNat 32 (l.val / 64 % 3) := by
  pointwise [tapCol, k0_pay7, k0_pay5, k0_pay6, lanes]
  revert l; decide +kernel
theorem chan_apply (k : Fin 576) (l : Fin 584) : chan (ix2 k l) = BitVec.ofNat 32 (l.val % 64 / 4) := by
  pointwise [chan, k0_pay11, k0_pay8, k0_pay9, k0_pay10, lanes]
  revert l; decide +kernel
theorem rot_apply (k : Fin 576) (l : Fin 584) : rot (ix2 k l) = BitVec.ofNat 32 (l.val % 4) := by
  pointwise [rot, k0_pay12, lanes]
  revert l; decide +kernel

/-- Two words that hold small numbers are equal just when the numbers are. -/
theorem word_eq {x n : ℕ} (hx : x < 584) (hn : n < 584) :
    IntOp.cmpi .eq (BitVec.ofNat 32 x) (BitVec.ofNat 32 n) = BitVec.ofBool (decide (x = n)) := by
  have h : (BitVec.ofNat 32 x = BitVec.ofNat 32 n) ↔ x = n := by
    constructor
    · intro h
      have := congrArg BitVec.toNat h
      rw [BitVec.toNat_ofNat, BitVec.toNat_ofNat, Nat.mod_eq_of_lt (by omega), Nat.mod_eq_of_lt (by omega)] at this
      exact this
    · rintro rfl; rfl
  by_cases hxn : x = n
  · subst hxn; simp [IntOp.cmpi]
  · have h' : ¬ BitVec.ofNat 32 x = BitVec.ofNat 32 n := fun e => hxn (h.mp e)
    simp only [IntOp.cmpi, hxn, decide_false, beq_eq_false_iff_ne.mpr h']

/-- A lane below 576 is one of the taps'. -/
theorem lane_lt : ∀ l : Fin 584, IntOp.cmpi .slt (BitVec.ofNat 32 l.val) 576#32 = BitVec.ofBool (decide (l.val < 576)) := by
  decide +kernel
theorem lane_ge : ∀ l : Fin 584, IntOp.cmpi .sge (BitVec.ofNat 32 l.val) 576#32 = BitVec.ofBool (decide (576 ≤ l.val)) := by
  decide +kernel

/-- A sum that a mask leaves one term of. -/
theorem sum_select {n : ℕ} (f : Fin n → EReal) (c : Fin n → BitVec 1) (k : Fin n) (h : ∀ x, c x = BitVec.ofBool (decide (x = k))) :
    ∑ x, Scalar.select (c x) (f x) 0 = f k := by
  rw [Finset.sum_eq_single k]
  · rw [h]; simp [Scalar.select]
  · intro x _ hx; rw [h]; simp [Scalar.select, hx]
  · exact fun hk => absurd (Finset.mem_univ k) hk

/-- A selection matrix picks, at a lane of the taps', the filter's entry whose number its word holds. -/
theorem pick (f : Fin 576 → EReal) (l : Fin 584) (hl : l.val < 576) (v : BitVec 32) (n : ℕ) (hn : n < 576) (hv : v = BitVec.ofNat 32 n) :
    ∑ x : Fin 576, Scalar.select (IntOp.andi (IntOp.cmpi .eq (BitVec.ofNat 32 x.val) v) (IntOp.cmpi .slt (BitVec.ofNat 32 l.val) 576#32)) (f x) 0
      = f ⟨n, hn⟩ := by
  refine sum_select f _ ⟨n, hn⟩ fun x => ?_
  rw [hv, word_eq (by omega) (by omega), lane_lt]
  simp only [hl, decide_true, Fin.ext_iff]
  by_cases h : x.val = n <;> simp [h, IntOp.andi]

/-- The blocks of the four rotations. -/
theorem block0_apply (w : Vec Ideal S128x576 .f32) (o : Fin 128) (l : Fin 584) (hl : l.val < 576) :
    block0 w (ix2 o l) = w (ix2 o ⟨srcOf 0 l.val, srcOf_lt 0 l hl⟩) := by
  pointwise [block0, k0_pay14, k0_pay3, k0_pay13, tapRow_apply, tapCol_apply, chan_apply, rot_apply]
  exact pick (fun x => w (ix2 o x)) l hl _ _ _ (by revert l; decide +kernel)
theorem block1_apply (w : Vec Ideal S128x576 .f32) (o : Fin 128) (l : Fin 584) (hl : l.val < 576) :
    block1 w (ix2 o l) = w (ix2 o ⟨srcOf 1 l.val, srcOf_lt 1 l hl⟩) := by
  pointwise [block1, k0_pay16, k0_pay3, k0_pay15, tapRow_apply, tapCol_apply, chan_apply, rot_apply]
  exact pick (fun x => w (ix2 o x)) l hl _ _ _ (by revert l; decide +kernel)
theorem block2_apply (w : Vec Ideal S128x576 .f32) (o : Fin 128) (l : Fin 584) (hl : l.val < 576) :
    block2 w (ix2 o l) = w (ix2 o ⟨srcOf 2 l.val, srcOf_lt 2 l hl⟩) := by
  pointwise [block2, k0_pay20, k0_pay3, k0_pay17, k0_pay18, k0_pay19, tapRow_apply, tapCol_apply, chan_apply, rot_apply]
  exact pick (fun x => w (ix2 o x)) l hl _ _ _ (by revert l; decide +kernel)

/-- Four blocks of 128 rows, one over another, read at a row: the block of the row's rotation, at its channel. -/
theorem stacked (s : Fin 4) (o : Fin 128) (r : ℕ) (hr : r = s.val * 128 + o.val) (f0 f1 f2 f3 : (n : ℕ) → n < 128 → EReal) (g : EReal)
    (h0 : s.val = 0 → f0 o.val o.isLt = g) (h1 : s.val = 1 → f1 o.val o.isLt = g) (h2 : s.val = 2 → f2 o.val o.isLt = g)
    (h3 : s.val = 3 → f3 o.val o.isLt = g) (hl : r - 128 - 128 - 128 < 128) :
    (if h : r < 128 then f0 r h else if h : r - 128 < 128 then f1 (r - 128) h
      else if h : r - 128 - 128 < 128 then f2 (r - 128 - 128) h else f3 (r - 128 - 128 - 128) hl) = g := by
  obtain ⟨o, ho⟩ := o
  have key : ∀ (f : (n : ℕ) → n < 128 → EReal) (n : ℕ) (hn : n < 128), f o ho = g → n = o → f n hn = g := by
    rintro f n hn hf rfl; exact hf
  have hs := s.isLt
  simp only at hr
  split_ifs with a b c
  · exact key f0 _ _ (h0 (by omega)) (by omega)
  · exact key f1 _ _ (h1 (by omega)) (by omega)
  · exact key f2 _ _ (h2 (by omega)) (by omega)
  · exact key f3 _ _ (h3 (by omega)) (by omega)

/-- A mask that is off, and one that is on. -/
theorem select_off (x y : EReal) : Scalar.select (BitVec.ofBool false) x y = y := rfl
theorem select_on (x y : EReal) : Scalar.select (BitVec.ofBool true) x y = x := rfl

/-- The weights matrix at a lane of the taps'. -/
theorem weights_tap (w : Vec Ideal S128x576 .f32) (b : Vec Ideal S1x128 .f32) (s : Fin 4) (o : Fin 128) (r : Fin 512)
    (hr : r.val = s.val * 128 + o.val) (l : Fin 584) (hl : l.val < 576) :
    weights w b (ix2 r l) = w (ix2 o ⟨srcOf s.val l.val, srcOf_lt s l hl⟩) := by
  have hm : ¬ (576 ≤ l.val) := by omega
  unfold weights
  pointwise [k0_pay25, k0_pay24, k0_pay3, k0_pay21, k0_pay22, k0_pay23, tapRow_apply, tapCol_apply, chan_apply, rot_apply]
  rw [lane_ge]
  simp only [hm, decide_false]
  rw [select_off]
  generalize hv : IntOp.addi (IntOp.addi (IntOp.addi _ _) _) _ = v
  have hv' : v = BitVec.ofNat 32 (srcOf 3 l.val) := by
    rw [← hv]; clear hv v hm hr r; revert l; decide +kernel
  refine stacked s o r.val hr (fun n h => block0 w (ix2 ⟨n, h⟩ l)) (fun n h => block1 w (ix2 ⟨n, h⟩ l)) (fun n h => block2 w (ix2 ⟨n, h⟩ l))
    (fun n h => ∑ x : Fin 576, Scalar.select (IntOp.andi (IntOp.cmpi .eq (BitVec.ofNat 32 x.val) v) (IntOp.cmpi .slt (BitVec.ofNat 32 l.val) 576#32)) (w (ix2 ⟨n, h⟩ x)) 0)
    _ (fun h => ?_) (fun h => ?_) (fun h => ?_) (fun h => ?_) (by have := s.isLt; have := o.isLt; omega)
  · simp only [block0_apply w o l hl, h]
  · simp only [block1_apply w o l hl, h]
  · simp only [block2_apply w o l hl, h]
  · simp only [h]
    exact pick (fun x => w (ix2 o x)) l hl _ _ _ hv'

/-- The identity matrix picks the bias of a channel. -/
theorem pick_bias (b : Vec Ideal S1x128 .f32) (n : ℕ) (hn : n < 128) :
    ∑ x : Fin 128, Scalar.select (IntOp.cmpi .eq (BitVec.ofNat 32 n) (BitVec.ofNat 32 x.val)) (b (ix2 0 x)) 0 = b (ix2 0 ⟨n, hn⟩) := by
  refine sum_select (fun x => b (ix2 0 x)) _ ⟨n, hn⟩ fun x => ?_
  rw [word_eq (by omega) (by omega)]
  simp only [Fin.ext_iff, eq_comm]

/-- The weights matrix at one of the last eight lanes. -/
theorem weights_bias (w : Vec Ideal S128x576 .f32) (b : Vec Ideal S1x128 .f32) (s : Fin 4) (o : Fin 128) (r : Fin 512)
    (hr : r.val = s.val * 128 + o.val) (l : Fin 584) (hl : 576 ≤ l.val) :
    weights w b (ix2 r l) = b (ix2 0 o) * Ideal.ofBits .f32 0x40000000#32 := by
  unfold weights
  pointwise [k0_pay25, k0_pay24]
  rw [lane_ge]
  simp only [hl, decide_true]
  rw [select_on]
  have key : ∀ (n : ℕ) (hn : n < 128), (∑ x : Fin 128, Scalar.select (IntOp.cmpi .eq (BitVec.ofNat 32 n) (BitVec.ofNat 32 x.val)) (b (ix2 0 x)) 0)
      * Ideal.ofBits .f32 0x40000000#32 = b (ix2 0 ⟨n, hn⟩) * Ideal.ofBits .f32 0x40000000#32 := fun n hn => by rw [pick_bias b n hn]
  exact stacked s o r.val hr
    (fun n h => (∑ x : Fin 128, Scalar.select (IntOp.cmpi .eq (BitVec.ofNat 32 n) (BitVec.ofNat 32 x.val)) (b (ix2 0 x)) 0) * Ideal.ofBits .f32 0x40000000#32)
    (fun n h => (∑ x : Fin 128, Scalar.select (IntOp.cmpi .eq (BitVec.ofNat 32 n) (BitVec.ofNat 32 x.val)) (b (ix2 0 x)) 0) * Ideal.ofBits .f32 0x40000000#32)
    (fun n h => (∑ x : Fin 128, Scalar.select (IntOp.cmpi .eq (BitVec.ofNat 32 n) (BitVec.ofNat 32 x.val)) (b (ix2 0 x)) 0) * Ideal.ofBits .f32 0x40000000#32)
    (fun n h => (∑ x : Fin 128, Scalar.select (IntOp.cmpi .eq (BitVec.ofNat 32 n) (BitVec.ofNat 32 x.val)) (b (ix2 0 x)) 0) * Ideal.ofBits .f32 0x40000000#32)
    _ (fun _ => key _ _) (fun _ => key _ _) (fun _ => key _ _) (fun _ => key _ _) (by have := s.isLt; have := o.isLt; omega)

end Cert.KernelIdeal.Hand

end
-- ==== Proof.RefConv.lean ====
/- What the reference's convolution computes: the four turned filters, the bordered image, and each capsule's prediction. -/
module

public import proofs.«01_k».proof.Proof.Gen.ReferenceIdeal.Run
public import proofs.«01_k».proof.Proof.Weights
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.KernelIdeal.Hand (turnRow turnCol)

/-- The filters turned by one, by two and by three quarter turns. -/
def turn1 (w : FVec Ideal S128x16x4x3x3 .f32) : FVec Ideal S128x16x4x3x3 .f32 :=
  transpose S128x16x4x3x3 [0, 1, 2, 4, 3] (Host.reverse [4] w) transposes_S128x16x4x3x3_S128x16x4x3x3_0_1_2_4_3
def turn2 (w : FVec Ideal S128x16x4x3x3 .f32) : FVec Ideal S128x16x4x3x3 .f32 :=
  Host.reverse [3, 4] w
def turn3 (w : FVec Ideal S128x16x4x3x3 .f32) : FVec Ideal S128x16x4x3x3 .f32 :=
  Host.reverse [4] (transpose S128x16x4x3x3 [0, 1, 2, 4, 3] w transposes_S128x16x4x3x3_S128x16x4x3x3_0_1_2_4_3)

/-- The four turned filters as one matrix, a row per output channel and rotation. -/
def filters (w : FVec Ideal S128x16x4x3x3 .f32) : FVec Ideal S512x576 .f32 :=
  shapeCast S512x576 (transpose S128x4x3x3x16x4 [0, 2, 5, 4, 1, 3] (shapeCast S128x16x4x4x3x3 ((concatenate S128x16x16x3x3 2 [⟨S128x16x4x3x3, (w : (⟨S128x16x4x3x3, .f32⟩ : BufTy).Contents (Elt Ideal))⟩, ⟨S128x16x1x3x3, ((extractStridedSlice S128x16x1x3x3 ![0, 0, 3, 0, 0] (turn1 w) slices_S128x16x4x3x3_S128x16x1x3x3_0_0_3_0_0) : (⟨S128x16x1x3x3, .f32⟩ : BufTy).Contents (Elt Ideal))⟩, ⟨S128x16x3x3x3, ((extractStridedSlice S128x16x3x3x3 ![0, 0, 0, 0, 0] (turn1 w) slices_S128x16x4x3x3_S128x16x3x3x3_0_0_0_0_0) : (⟨S128x16x3x3x3, .f32⟩ : BufTy).Contents (Elt Ideal))⟩, ⟨S128x16x2x3x3, ((extractStridedSlice S128x16x2x3x3 ![0, 0, 2, 0, 0] (turn2 w) slices_S128x16x4x3x3_S128x16x2x3x3_0_0_2_0_0) : (⟨S128x16x2x3x3, .f32⟩ : BufTy).Contents (Elt Ideal))⟩, ⟨S128x16x2x3x3, ((extractStridedSlice S128x16x2x3x3 ![0, 0, 0, 0, 0] (turn2 w) slices_S128x16x4x3x3_S128x16x2x3x3_0_0_0_0_0) : (⟨S128x16x2x3x3, .f32⟩ : BufTy).Contents (Elt Ideal))⟩, ⟨S128x16x3x3x3, ((extractStridedSlice S128x16x3x3x3 ![0, 0, 1, 0, 0] (turn3 w) slices_S128x16x4x3x3_S128x16x3x3x3_0_0_1_0_0) : (⟨S128x16x3x3x3, .f32⟩ : BufTy).Contents (Elt Ideal))⟩, ⟨S128x16x1x3x3, ((extractStridedSlice S128x16x1x3x3 ![0, 0, 0, 0, 0] (turn3 w) slices_S128x16x4x3x3_S128x16x1x3x3_0_0_0_0_0) : (⟨S128x16x1x3x3, .f32⟩ : BufTy).Contents (Elt Ideal))⟩] concatenates_S128x16x4x3x3_S128x16x1x3x3_S128x16x3x3x3_S128x16x2x3x3_S128x16x2x3x3_S128x16x3x3x3_S128x16x1x3x3_S128x16x16x3x3_d2 : (⟨S128x16x16x3x3, .f32⟩ : BufTy).Contents (Elt Ideal))) shapeCasts_S128x16x16x3x3_S128x16x4x4x3x3) transposes_S128x16x4x4x3x3_S128x4x3x3x16x4_0_2_5_4_1_3) shapeCasts_S128x4x3x3x16x4_S512x576

/-- The bordered image: the capsules' images with a border of zeros. -/
def bordered (x : FVec Ideal S2x16x16x4x32x32 .f32) : FVec Ideal S32x64x34x34 .f32 :=
  pad S32x64x34x34 ![0, 0, 1, 1] ![0, 0, 1, 1] ![0, 0, 0, 0] (shapeCast S32x64x32x32 x shapeCasts_S2x16x16x4x32x32_S32x64x32x32) (constant S_ .f32 0x00000000#32) pads_S32x64x32x32_S32x64x34x34_000_000_110_110 h_S_

/-- Its rows and then its columns, shifted to each of the filters' rows and columns. -/
def rows (y : FVec Ideal S32x64x34x34 .f32) : FVec Ideal S32x192x16x34 .f32 :=
  (concatenate S32x192x16x34 1 [⟨S32x64x16x34, ((Host.slice S32x64x16x34 ![0, 0, 0, 0] ![1, 1, 2, 1] y slicesBy_S32x64x34x34_S32x64x16x34_0s1_0s1_0s2_0s1) : (⟨S32x64x16x34, .f32⟩ : BufTy).Contents (Elt Ideal))⟩, ⟨S32x64x16x34, ((Host.slice S32x64x16x34 ![0, 0, 1, 0] ![1, 1, 2, 1] y slicesBy_S32x64x34x34_S32x64x16x34_0s1_0s1_1s2_0s1) : (⟨S32x64x16x34, .f32⟩ : BufTy).Contents (Elt Ideal))⟩, ⟨S32x64x16x34, ((Host.slice S32x64x16x34 ![0, 0, 2, 0] ![1, 1, 2, 1] y slicesBy_S32x64x34x34_S32x64x16x34_0s1_0s1_2s2_0s1) : (⟨S32x64x16x34, .f32⟩ : BufTy).Contents (Elt Ideal))⟩] concatenates_S32x64x16x34_S32x64x16x34_S32x64x16x34_S32x192x16x34_d1 : (⟨S32x192x16x34, .f32⟩ : BufTy).Contents (Elt Ideal))
def taps (y : FVec Ideal S32x192x16x34 .f32) : FVec Ideal S32x576x16x16 .f32 :=
  ((concatenate S32x576x16x16 1 [⟨S32x192x16x16, ((Host.slice S32x192x16x16 ![0, 0, 0, 0] ![1, 1, 1, 2] y slicesBy_S32x192x16x34_S32x192x16x16_0s1_0s1_0s1_0s2) : (⟨S32x192x16x16, .f32⟩ : BufTy).Contents (Elt Ideal))⟩, ⟨S32x192x16x16, ((Host.slice S32x192x16x16 ![0, 0, 0, 1] ![1, 1, 1, 2] y slicesBy_S32x192x16x34_S32x192x16x16_0s1_0s1_0s1_1s2) : (⟨S32x192x16x16, .f32⟩ : BufTy).Contents (Elt Ideal))⟩, ⟨S32x192x16x16, ((Host.slice S32x192x16x16 ![0, 0, 0, 2] ![1, 1, 1, 2] y slicesBy_S32x192x16x34_S32x192x16x16_0s1_0s1_0s1_2s2) : (⟨S32x192x16x16, .f32⟩ : BufTy).Contents (Elt Ideal))⟩] concatenates_S32x192x16x16_S32x192x16x16_S32x192x16x16_S32x576x16x16_d1 : (⟨S32x576x16x16, .f32⟩ : BufTy).Contents (Elt Ideal)))

/-- The predictions: the convolution and the bias. -/
def preds (x : FVec Ideal S2x16x16x4x32x32 .f32) (w : FVec Ideal S128x16x4x3x3 .f32) (b : FVec Ideal S128 .f32) :
    FVec Ideal S2x16x8x16x4x16x16 .f32 :=
  shapeCast S2x16x8x16x4x16x16 (addf (shapeCast S32x128x4x16x16 (transpose S32x512x16x16 [0, 3, 1, 2] (Host.dotGeneral dot_S32x576x16x16_S512x576_S32x16x16x512_1_1_023_0_n_n none (taps (rows (bordered x))) (filters w)) transposes_S32x16x16x512_S32x512x16x16_0_3_1_2) shapeCasts_S32x512x16x16_S32x128x4x16x16) (broadcastInDim S32x128x4x16x16 ![0, 1, 2, 3, 4] bcast_S1x128x1x1x1_S32x128x4x16x16_0_1_2_3_4 (broadcastInDim S1x128x1x1x1 ![1] bcast_S128_S1x128x1x1x1_1 b))) shapeCasts_S32x128x4x16x16_S2x16x8x16x4x16x16

/-- The run's term for the predictions. -/
theorem preds_eq (V0 : Valuation τ sig (Elt Ideal)) :
    res_main_v31 V0 = preds (V0 (Proc.devRef .tc main_arg0)) (V0 (Proc.devRef .tc main_arg1)) (V0 (Proc.devRef .tc main_arg2)) := by
  unfold res_main_v31 res_main_v20 res_main_v16 res_main_v2 res_main_v3 res_main_v5
  rfl

/-- The bordered image at an element. -/
theorem bordered_apply (x : FVec Ideal S2x16x16x4x32x32 .f32) (n : Fin 2) (k : Fin 16) (c : Fin 64) (h w : Fin 34) :
    bordered x (ix4 ⟨16 * n.val + k.val, by omega⟩ c h w)
      = if hi : (1 ≤ h.val ∧ h.val < 33) ∧ 1 ≤ w.val ∧ w.val < 33 then
          x (ix6 n k ⟨c.val / 4, by omega⟩ ⟨c.val % 4, by omega⟩ ⟨h.val - 1, by omega⟩ ⟨w.val - 1, by omega⟩) else (0 : EReal) := by
  pointwise [bordered]
  by_cases hi : (1 ≤ h.val ∧ h.val < 33) ∧ 1 ≤ w.val ∧ w.val < 33
  · rw [dif_pos hi, dif_pos (by omega)]
  · rw [dif_neg hi, dif_neg (by omega)]

/-- The shifted images at an element. -/
theorem taps_apply (y : FVec Ideal S32x64x34x34 .f32) (n : Fin 32) (b a : Fin 3) (c : Fin 64) (p q : Fin 16) :
    taps (rows y) (ix4 n ⟨192 * b.val + 64 * a.val + c.val, by omega⟩ p q)
      = y (ix4 n c ⟨a.val + 2 * p.val, by omega⟩ ⟨b.val + 2 * q.val, by omega⟩) := by
  pointwise [taps, rows]
  have key : ∀ {c' : Fin 64} {h h' w w' : Fin 34}, c' = c → h = h' → w = w' → y (ix4 n c' h w) = y (ix4 n c h' w') := by
    rintro _ _ _ _ _ rfl rfl rfl; rfl
  split_ifs <;>
    exact key (Fin.ext (by dsimp only; omega)) (Fin.ext (by dsimp only; omega)) (Fin.ext (by dsimp only; omega))

theorem turnRow_lt : ∀ (s : Fin 4) (a b : Fin 3), turnRow s.val a.val b.val < 3 := by decide +kernel
theorem turnCol_lt : ∀ (s : Fin 4) (a b : Fin 3), turnCol s.val a.val b.val < 3 := by decide +kernel

/-- The turned filters at an element. -/
theorem filters_apply (w : FVec Ideal S128x16x4x3x3 .f32) (o : Fin 128) (s : Fin 4) (b a : Fin 3) (c : Fin 64) :
    filters w (ix2 ⟨4 * o.val + s.val, by omega⟩ ⟨192 * b.val + 64 * a.val + c.val, by omega⟩)
      = w (ix5 o ⟨c.val / 4, by omega⟩ ⟨(c.val % 4 + 4 - s.val) % 4, by omega⟩ ⟨turnRow s.val a.val b.val, turnRow_lt s a b⟩ ⟨turnCol s.val a.val b.val, turnCol_lt s a b⟩) := by
  pointwise [filters, turn1, turn2, turn3]
  have leaf : ∀ (r : Fin 4) (h v : Fin 3), r.val = (c.val % 4 + 4 - s.val) % 4 → h.val = turnRow s.val a.val b.val →
      v.val = turnCol s.val a.val b.val →
      w (ix5 o ⟨(192 * b.val + 64 * a.val + c.val) / 4 % 16, by omega⟩ r h v)
        = w (ix5 o ⟨c.val / 4, by omega⟩ ⟨(c.val % 4 + 4 - s.val) % 4, by omega⟩ ⟨turnRow s.val a.val b.val, turnRow_lt s a b⟩
            ⟨turnCol s.val a.val b.val, turnCol_lt s a b⟩) := by
    intro r h v hr hh hv
    have e1 : (⟨(192 * b.val + 64 * a.val + c.val) / 4 % 16, by omega⟩ : Fin 16) = ⟨c.val / 4, by omega⟩ := Fin.ext (by dsimp only; omega)
    rw [e1, ← Fin.eta r r.isLt, ← Fin.eta h h.isLt, ← Fin.eta v v.isLt]
    simp only [hr, hh, hv]
  have rev_val : ∀ z : Fin 3, z.rev.val = 2 - z.val := fun z => by rw [Fin.val_rev]; omega
  by_cases h0 : s.val * 4 + (192 * b.val + 64 * a.val + c.val) % 4 < 4
  · rw [dif_pos h0]
    have hs : s.val = 0 := by omega
    exact leaf ⟨s.val * 4 + (192 * b.val + 64 * a.val + c.val) % 4, by omega⟩ a b (by dsimp only; omega) (by rw [hs]; exact rfl) (by rw [hs]; exact rfl)
  rw [dif_neg h0]
  by_cases h1 : s.val * 4 + (192 * b.val + 64 * a.val + c.val) % 4 - 4 < 1
  · rw [dif_pos h1]
    have hs : s.val = 1 := by omega
    exact leaf ⟨3 + (s.val * 4 + (192 * b.val + 64 * a.val + c.val) % 4 - 4), by omega⟩ b a.rev (by dsimp only; omega) (by rw [hs]; exact rfl) (by rw [hs]; exact rev_val a)
  rw [dif_neg h1]
  by_cases h2 : s.val * 4 + (192 * b.val + 64 * a.val + c.val) % 4 - 4 - 1 < 3
  · rw [dif_pos h2]
    have hs : s.val = 1 := by omega
    exact leaf ⟨s.val * 4 + (192 * b.val + 64 * a.val + c.val) % 4 - 4 - 1, by omega⟩ b a.rev (by dsimp only; omega) (by rw [hs]; exact rfl) (by rw [hs]; exact rev_val a)
  rw [dif_neg h2]
  by_cases h3 : s.val * 4 + (192 * b.val + 64 * a.val + c.val) % 4 - 4 - 1 - 3 < 2
  · rw [dif_pos h3]
    have hs : s.val = 2 := by omega
    exact leaf ⟨2 + (s.val * 4 + (192 * b.val + 64 * a.val + c.val) % 4 - 4 - 1 - 3), by omega⟩ a.rev b.rev (by dsimp only; omega) (by rw [hs]; exact rev_val a) (by rw [hs]; exact rev_val b)
  rw [dif_neg h3]
  by_cases h4 : s.val * 4 + (192 * b.val + 64 * a.val + c.val) % 4 - 4 - 1 - 3 - 2 < 2
  · rw [dif_pos h4]
    have hs : s.val = 2 := by omega
    exact leaf ⟨s.val * 4 + (192 * b.val + 64 * a.val + c.val) % 4 - 4 - 1 - 3 - 2, by omega⟩ a.rev b.rev (by dsimp only; omega) (by rw [hs]; exact rev_val a) (by rw [hs]; exact rev_val b)
  rw [dif_neg h4]
  by_cases h5 : s.val * 4 + (192 * b.val + 64 * a.val + c.val) % 4 - 4 - 1 - 3 - 2 - 2 < 3
  · rw [dif_pos h5]
    have hs : s.val = 3 := by omega
    exact leaf ⟨1 + (s.val * 4 + (192 * b.val + 64 * a.val + c.val) % 4 - 4 - 1 - 3 - 2 - 2), by omega⟩ b.rev a (by dsimp only; omega) (by rw [hs]; exact rev_val b) (by rw [hs]; exact rfl)
  rw [dif_neg h5]
  have hs : s.val = 3 := by omega
  exact leaf ⟨s.val * 4 + (192 * b.val + 64 * a.val + c.val) % 4 - 4 - 1 - 3 - 2 - 2 - 3, by omega⟩ b.rev a (by dsimp only; omega) (by rw [hs]; exact rev_val b) (by rw [hs]; exact rfl)

/-- A prediction at an element. -/
theorem preds_apply (x : FVec Ideal S2x16x16x4x32x32 .f32) (w : FVec Ideal S128x16x4x3x3 .f32) (bi : FVec Ideal S128 .f32)
    (n : Fin 2) (k : Fin 16) (a : Fin 8) (d : Fin 16) (s : Fin 4) (p q : Fin 16) :
    preds x w bi (ix7 n k a d s p q)
      = (∑ l : Fin 576, taps (rows (bordered x)) (ix4 ⟨16 * n.val + k.val, by omega⟩ l p q) * filters w (ix2 ⟨4 * (16 * a.val + d.val) + s.val, by omega⟩ l))
        + bi (ix1 ⟨16 * a.val + d.val, by omega⟩) := by
  pointwise [preds]
  simp only [Nat.mul_comm n.val, Nat.mul_comm a.val, Nat.mul_comm (16 * a.val + d.val)]

end Cert.ReferenceIdeal.Hand

end
-- ==== Proof.Alike.lean ====
/- Extended reals that agree up to the sign of an infinity: what moving a real factor into a sum preserves, and what the
   squash does not tell apart. -/
module

public import proofs.«01_k».proof.Proof.Reals
public import proofs.«01_k».proof.Proof.Squash

@[expose] public section

noncomputable section

namespace Cert.Caps

open Idealize.ShloMosaic

/-- Equal, or both infinite. -/
def Alike (x y : EReal) : Prop := x = y ∨ (¬IsReal x ∧ ¬IsReal y)

theorem Alike.refl (x : EReal) : Alike x x := .inl rfl

theorem Alike.symm {x y : EReal} : Alike x y → Alike y x
  | .inl h => .inl h.symm
  | .inr h => .inr ⟨h.2, h.1⟩

/-- Alike numbers are real together. -/
theorem Alike.isReal {x y : EReal} (h : Alike x y) (hx : IsReal x) : IsReal y := by
  rcases h with rfl | h
  · exact hx
  · exact absurd hx h.1

/-- Numbers real together, and equal then, are alike. -/
theorem alike_of {x y : EReal} (h : IsReal x → x = y) (h' : IsReal y → IsReal x) : Alike x y := by
  by_cases hx : IsReal x
  · exact .inl (h hx)
  · exact .inr ⟨hx, fun hy => hx (h' hy)⟩

/-- The terms of a real sum are real. -/
theorem isReal_left {x y : EReal} (h : IsReal (x + y)) : IsReal x := by
  refine isReal_of_ne ?_ ?_ <;> rintro rfl
  · by_cases hy : y = ⊥
    · exact h.ne_bot (by rw [hy, EReal.add_bot])
    · exact h.ne_top (EReal.top_add_of_ne_bot hy)
  · exact h.ne_bot (EReal.bot_add y)

/-- The terms of a real sum are real. -/
theorem isReal_term {ι : Type} (s : Finset ι) (f : ι → EReal) (h : IsReal (∑ i ∈ s, f i)) (i : ι) (hi : i ∈ s) : IsReal (f i) := by
  classical
  rw [← Finset.add_sum_erase s f hi] at h
  exact isReal_left h

theorem Alike.add {x y x' y' : EReal} (h : Alike x y) (h' : Alike x' y') : Alike (x + x') (y + y') := by
  have key : ∀ {x y x' y' : EReal}, Alike x y → Alike x' y' → IsReal (x + x') → x = y ∧ x' = y' := by
    intro x y x' y' h h' hs
    have hx := isReal_left hs
    have hx' := isReal_left (add_comm x x' ▸ hs)
    exact ⟨h.resolve_right fun e => e.1 hx, h'.resolve_right fun e => e.1 hx'⟩
  refine alike_of (fun hs => ?_) fun hs => ?_
  · obtain ⟨e, e'⟩ := key h h' hs
    rw [e, e']
  · obtain ⟨e, e'⟩ := key h.symm h'.symm hs
    rw [← e, ← e']
    exact hs

/-- Sums of alike terms are alike. -/
theorem Alike.sum {ι : Type} (s : Finset ι) (f g : ι → EReal) (h : ∀ i, Alike (f i) (g i)) : Alike (∑ i ∈ s, f i) (∑ i ∈ s, g i) := by
  classical
  induction s using Finset.induction_on with
  | empty => exact .refl _
  | insert a s ha ih => rw [Finset.sum_insert ha, Finset.sum_insert ha]; exact (h a).add ih

/-- A real number other than zero, times an infinity, is no real. -/
theorem isReal_of_mul {w x : EReal} (hw : IsReal w) (h0 : w ≠ 0) (h : IsReal (w * x)) : IsReal x := by
  obtain ⟨r, rfl⟩ := hw
  have hr : r ≠ 0 := fun e => h0 (by rw [e, EReal.coe_zero])
  rcases lt_or_gt_of_ne hr with hr | hr <;> refine isReal_of_ne ?_ ?_ <;> rintro rfl
  · exact h.ne_bot (EReal.coe_mul_top_of_neg hr)
  · exact h.ne_top (EReal.coe_mul_bot_of_neg hr)
  · exact h.ne_top (EReal.coe_mul_top_of_pos hr)
  · exact h.ne_bot (EReal.coe_mul_bot_of_pos hr)

/-- A real factor goes into a sum, up to the sign of an infinity. -/
theorem mul_sum_alike {ι : Type} (s : Finset ι) (w : EReal) (f : ι → EReal) (hw : IsReal w) :
    Alike (∑ i ∈ s, w * f i) (w * ∑ i ∈ s, f i) := by
  by_cases h0 : w = 0
  · exact .inl (by simp only [h0, zero_mul, Finset.sum_const_zero])
  · refine alike_of (fun h => ?_) fun h => ?_
    · exact (mul_sum_real s w f hw fun i hi => isReal_of_mul hw h0 (isReal_term s _ h i hi)).symm
    · have hs := isReal_of_mul hw h0 h
      rw [← mul_sum_real s w f hw fun i hi => isReal_term s f hs i hi]
      exact hw.mul hs

/-- The squash is zero where one of the rotations is infinite. -/
theorem squash_infinite (y : Fin 4 → EReal) (k : Fin 4) (h : ¬IsReal (y k)) (s : Fin 4) : squash y s = 0 := by
  have hn : ∑ k, y k * y k = ⊤ := by
    by_contra hn
    exact h (isReal_of_sum_sq hn k)
  have ht : Ideal.sqrt ⊤ + tiny = ⊤ := by
    obtain ⟨r, -, e⟩ := tiny_f32
    show (⊤ : EReal) + tiny = ⊤
    unfold tiny
    rw [e]
    exact EReal.top_add_coe r
  unfold squash
  rw [hn, ht, div_top, mul_zero]

/-- The squash does not tell alike values apart. -/
theorem squash_alike (y z : Fin 4 → EReal) (h : ∀ k, Alike (y k) (z k)) (s : Fin 4) : squash y s = squash z s := by
  by_cases hy : ∀ k, IsReal (y k)
  · exact congrArg (squash · s) (funext fun k => (h k).resolve_right fun e => e.1 (hy k))
  · obtain ⟨k, hk⟩ := not_forall.mp hy
    rw [squash_infinite y k hk, squash_infinite z k fun hz => hk ((h k).symm.isReal hz)]

end Cert.Caps

end
-- ==== Proof.Sums.lean ====
/- The sum over the input capsules of their convolutions is one convolution of the capsules' sum, up to the sign of an
   infinity. -/
module

public import proofs.«01_k».proof.Proof.Alike

@[expose] public section

noncomputable section

namespace Cert.Caps

open Idealize.ShloMosaic

/-- A sum over 576 lanes, by the filters' column, row and channel. -/
theorem sum_lanes (f : Fin 576 → EReal) :
    ∑ l, f l = ∑ b : Fin 3, ∑ a : Fin 3, ∑ c : Fin 64, f ⟨192 * b.val + 64 * a.val + c.val, by omega⟩ := by
  have e : ∀ n m (g : Fin (n * m) → EReal), ∑ l, g l = ∑ i : Fin n, ∑ j : Fin m, g (finProdFinEquiv (i, j)) := fun n m g => by
    rw [← Equiv.sum_comp finProdFinEquiv g, Fintype.sum_prod_type]
  have e1 := e 3 192 f
  rw [e1]
  refine Finset.sum_congr rfl fun b _ => ?_
  have e2 := e 3 64 fun j => f (finProdFinEquiv (b, j))
  refine e2.trans (Finset.sum_congr rfl fun a _ => Finset.sum_congr rfl fun c _ => congrArg f (Fin.ext ?_))
  simp only [finProdFinEquiv_apply_val]
  omega

/-- A sum over sixteen capsules, by halves. -/
theorem sum_halves (f : Fin 16 → EReal) :
    ∑ k, f k = (∑ k : Fin 8, f ⟨k.val, by omega⟩) + ∑ k : Fin 8, f ⟨8 + k.val, by omega⟩ :=
  Fin.sum_univ_add (a := 8) (b := 8) f

/-- Sixteen times the bias is eight times twice it, the infinities included. -/
theorem sum_bias (b : EReal) : ∑ _k : Fin 16, b = ∑ _k : Fin 8, b * Ideal.ofBits .f32 0x40000000#32 := by
  have h : b * Ideal.ofBits .f32 0x40000000#32 = b + b := by
    rw [two_f32]
    induction b with
    | bot => rw [EReal.bot_mul_coe_of_pos (by norm_num), EReal.bot_add]
    | top => rw [EReal.top_mul_coe_of_pos (by norm_num), EReal.top_add_top]
    | coe r => rw [← EReal.coe_mul, ← EReal.coe_add, mul_two]
  simp only [h, Finset.sum_const, Finset.card_univ, Fintype.card_fin, ← two_nsmul, ← mul_nsmul]

/-- The capsules' convolutions with their biases, summed: the bias's columns and the filters times the sum, up to the sign
    of an infinity. -/
theorem sum_capsules (x : Fin 16 → Fin 576 → EReal) (w : Fin 576 → EReal) (b : EReal) (hw : ∀ l, IsReal (w l)) :
    Alike (∑ k, ((∑ l, x k l * w l) + b))
      ((∑ _k : Fin 8, b * Ideal.ofBits .f32 0x40000000#32)
        + ∑ l, w l * ((∑ k : Fin 8, x ⟨k.val, by omega⟩ l) + ∑ k : Fin 8, x ⟨8 + k.val, by omega⟩ l)) := by
  rw [Finset.sum_add_distrib, sum_bias, Finset.sum_comm, add_comm]
  refine (Alike.refl _).add (Alike.sum _ _ _ fun l => ?_)
  rw [← sum_halves fun k => x k l]
  simp only [mul_comm _ (w l)]
  exact mul_sum_alike _ _ _ (hw l)

end Cert.Caps

end
-- ==== Proof.KernelValue.lean ====
/- What the kernel computes before the squash is the reference's predictions, summed over the input capsules. -/
module

public import proofs.«01_k».proof.Proof.KernelArray
public import proofs.«01_k».proof.Proof.BlockValue
public import proofs.«01_k».proof.Proof.RefConv
public import proofs.«01_k».proof.Proof.Sums

@[expose] public section

set_option maxRecDepth 16384

noncomputable section

namespace Cert.KernelIdeal.Hand

open Cert.KernelIdeal Cert.KernelIdeal.Gen
open Idealize.ShloMosaic Idealize.ShloMosaic.TcCoe
open Cert.Caps
open Cert.ReferenceIdeal.Hand (bordered taps filters preds bordered_apply taps_apply filters_apply preds_apply turnRow_lt turnCol_lt)

variable (m : (ℓ : Loc nD τ sig) → Buf (Elt Ideal) ℓ) (c : Dev nD)

/-- The kernel's arguments on a device. -/
abbrev images : FVec Ideal S2x16x16x4x32x32 .f32 := m ((c : Thread nD τ).loc main_arg0)
abbrev kernels : FVec Ideal S128x16x4x3x3 .f32 := m ((c : Thread nD τ).loc main_arg1)
abbrev biases : FVec Ideal S128 .f32 := m ((c : Thread nD τ).loc main_arg2)

/-- One capsule's bordered image. -/
def capsule (x : FVec Ideal S2x16x16x4x32x32 .f32) (n : Fin 2) (k : Fin 16) (e : Fin 64) (h v : Fin 34) : EReal :=
  bordered x (ix4 ⟨16 * n.val + k.val, by omega⟩ e h v)

theorem capsule_apply (x : FVec Ideal S2x16x16x4x32x32 .f32) (n : Fin 2) (k : Fin 16) (e : Fin 64) (h v : Fin 34) :
    capsule x n k e h v = if hi : (1 ≤ h.val ∧ h.val < 33) ∧ 1 ≤ v.val ∧ v.val < 33 then
        x (ix6 n k ⟨e.val / 4, by omega⟩ ⟨e.val % 4, by omega⟩ ⟨h.val - 1, by omega⟩ ⟨v.val - 1, by omega⟩) else (0 : EReal) :=
  bordered_apply x n k e h v

/-- The kernel's image is the sum of the capsules', by halves. -/
theorem image_apply (n : Fin 2) (h v : Fin 34) (e : Fin 64) :
    image m c (point n) (ix3 h v e)
      = (∑ k : Fin 8, capsule (images m c) n ⟨k.val, by omega⟩ e h v) + ∑ k : Fin 8, capsule (images m c) n ⟨8 + k.val, by omega⟩ e h v := by
  unfold image
  rw [padded_apply]
  simp only [capsule_apply]
  by_cases hi : (1 ≤ h.val ∧ h.val < 33) ∧ 1 ≤ v.val ∧ v.val < 33
  · simp only [dif_pos hi, inner_apply, iblk0_apply m c (point n) n (point_val n).symm, iblk1_apply m c (point n) n (point_val n).symm]
  · simp only [dif_neg hi, Finset.sum_const_zero, add_zero]

/-- The kernel's weights at a lane are the reference's filters at its lane for the same row, column and channel. -/
theorem weights_filters (s : Fin 4) (o : Fin 128) (a b : Fin 3) (e : Fin 64) :
    W m c (ix2 ⟨s.val * 128 + o.val, by omega⟩ ⟨64 * (3 * a.val + b.val) + e.val, by omega⟩)
      = filters (kernels m c) (ix2 ⟨4 * o.val + s.val, by omega⟩ ⟨192 * b.val + 64 * a.val + e.val, by omega⟩) := by
  unfold W
  rw [weights_tap _ _ s o _ rfl _ (by dsimp only; omega), iblk2_apply, filters_apply]
  have e1 : (64 * (3 * a.val + b.val) + e.val) / 192 = a.val := by omega
  have e2 : (64 * (3 * a.val + b.val) + e.val) / 64 % 3 = b.val := by omega
  have e3 : (64 * (3 * a.val + b.val) + e.val) % 64 = e.val := by omega
  have e4 : (64 * (3 * a.val + b.val) + e.val) % 4 = e.val % 4 := by omega
  have h1 := turnRow_lt s a b
  have h2 := turnCol_lt s a b
  have hs : srcOf s.val (64 * (3 * a.val + b.val) + e.val)
      = e.val / 4 * 36 + (e.val % 4 + 4 - s.val) % 4 * 9 + turnRow s.val a.val b.val * 3 + turnCol s.val a.val b.val := by
    unfold srcOf
    rw [e1, e2, e3, e4]
  have key : ∀ {i i' : Fin 16} {r r' : Fin 4} {h h' v v' : Fin 3}, i = i' → r = r' → h = h' → v = v' →
      kernels m c (ix5 o i r h v) = kernels m c (ix5 o i' r' h' v') := by
    rintro _ _ _ _ _ _ _ _ rfl rfl rfl rfl; rfl
  exact key (Fin.ext (by dsimp only; omega)) (Fin.ext (by dsimp only; omega)) (Fin.ext (by dsimp only; omega)) (Fin.ext (by dsimp only; omega))

/-- The kernel's bias columns. -/
theorem weights_biases (s : Fin 4) (o : Fin 128) (k : Fin 8) :
    W m c (ix2 ⟨s.val * 128 + o.val, by omega⟩ ⟨576 + k.val, by omega⟩) = biases m c (ix1 o) * Ideal.ofBits .f32 0x40000000#32 := by
  unfold W
  rw [weights_bias _ _ s o _ rfl _ (by dsimp only; omega), iblk3_apply]

/-- A lane's row, column and channel. -/
theorem lane_split (l : Fin 576) : ∃ (b a : Fin 3) (e : Fin 64), l = ⟨192 * b.val + 64 * a.val + e.val, by omega⟩ :=
  ⟨⟨l.val / 192, by omega⟩, ⟨l.val / 64 % 3, by omega⟩, ⟨l.val % 64, by omega⟩, Fin.ext (by dsimp only; omega)⟩

/-- The turned filters of real filters are real. -/
theorem filters_real (w : FVec Ideal S128x16x4x3x3 .f32) (hw : ∀ i, IsReal (w i)) (o : Fin 128) (s : Fin 4) (l : Fin 576) :
    IsReal (filters w (ix2 ⟨4 * o.val + s.val, by omega⟩ l)) := by
  obtain ⟨b, a, e, rfl⟩ := lane_split l
  rw [filters_apply]
  exact hw _

/-- One tap's sum, in the reference's terms. -/
theorem tapSum_apply (n : Fin 2) (s : Fin 4) (o : Fin 128) (p q : Fin 16) (a b : Fin 3) :
    tapSum (image m c (point n)) (W m c) a b ⟨s.val * 128 + o.val, by omega⟩ ⟨16 * p.val + q.val, by omega⟩
      = ∑ e : Fin 64, filters (kernels m c) (ix2 ⟨4 * o.val + s.val, by omega⟩ ⟨192 * b.val + 64 * a.val + e.val, by omega⟩)
          * ((∑ k : Fin 8, taps (Cert.ReferenceIdeal.Hand.rows (bordered (images m c))) (ix4 ⟨16 * n.val + k.val, by omega⟩ ⟨192 * b.val + 64 * a.val + e.val, by omega⟩ p q))
            + ∑ k : Fin 8, taps (Cert.ReferenceIdeal.Hand.rows (bordered (images m c))) (ix4 ⟨16 * n.val + (8 + k.val), by omega⟩ ⟨192 * b.val + 64 * a.val + e.val, by omega⟩ p q)) := by
  unfold tapSum
  refine Finset.sum_congr rfl fun e _ => ?_
  have ep : (16 * p.val + q.val) / 16 = p.val := by omega
  have eq : (16 * p.val + q.val) % 16 = q.val := by omega
  simp only [weights_filters, image_apply, taps_apply, ep, eq]
  rfl

/-- The kernel's value before the squash: the predictions, summed over the input capsules, up to the sign of an infinity. -/
theorem linear_apply (hw : ∀ i, IsReal (kernels m c i)) (n : Fin 2) (a : Fin 8) (d : Fin 16) (s : Fin 4) (p q : Fin 16) :
    Alike (∑ k : Fin 16, preds (images m c) (kernels m c) (biases m c) (ix7 n k a d s p q))
      (linear (image m c (point n)) (W m c) ⟨s.val * 128 + (16 * a.val + d.val), by omega⟩ ⟨16 * p.val + q.val, by omega⟩) := by
  have ht := fun a' b' => tapSum_apply m c n s ⟨16 * a.val + d.val, by omega⟩ p q a' b'
  have hb := fun k => weights_biases m c s ⟨16 * a.val + d.val, by omega⟩ k
  dsimp only at ht hb
  unfold linear
  simp only [ht, hb, preds_apply]
  have h := sum_capsules (fun k l => taps (Cert.ReferenceIdeal.Hand.rows (bordered (images m c))) (ix4 ⟨16 * n.val + k.val, by omega⟩ l p q)) _
    (biases m c (ix1 ⟨16 * a.val + d.val, by omega⟩)) fun l => filters_real _ hw ⟨16 * a.val + d.val, by omega⟩ s l
  rw [sum_lanes (fun l => filters (kernels m c) _ * _)] at h
  simp only [Fin.sum_univ_three] at h
  refine cast (congrArg (Alike _) ?_) h
  abel

end Cert.KernelIdeal.Hand

end
-- ==== Proof.LineSums.lean ====
/- The host's sums along one axis of arrays of rank six and seven, read at an index. -/
module

public import Idealize.ShloMosaic.Lib.Pointwise

@[expose] public section

noncomputable section

namespace Cert.Caps

open Idealize.ShloMosaic

variable {n0 n1 n2 n3 n4 n5 n6 : Nat}

/-- Rank seven, along the last axis. -/
theorem sum_last7 (h : (⟨7, ![n0, n1, n2, n3, n4, n5, n6]⟩ : Shape).ReducesTo [6] ⟨6, ![n0, n1, n2, n3, n4, n5]⟩)
    (x : (⟨7, ![n0, n1, n2, n3, n4, n5, n6]⟩ : Shape).Idx → EReal) (b : EReal)
    (i0 : Fin n0) (i1 : Fin n1) (i2 : Fin n2) (i3 : Fin n3) (i4 : Fin n4) (i5 : Fin n5) :
    Ideal.hostReduceAdd h x b (ix6 i0 i1 i2 i3 i4 i5) = b + ∑ k : Fin n6, x (ix7 i0 i1 i2 i3 i4 i5 k) := by
  unfold Ideal.hostReduceAdd
  refine congrArg (b + ·) (Finset.sum_filter_eq_sum_of_fiber _ (fun k : Fin n6 => ix7 i0 i1 i2 i3 i4 i5 k) (fun _ _ e => congrFun e 6)
    (fun i => ⟨fun e => ⟨i 6, ?_⟩, ?_⟩) x)
  · funext a; apply Fin.ext
    match a with
    | ⟨0, _⟩ => exact (congrArg Fin.val (congrFun e ⟨0, show 0 < 6 by decide⟩)).symm
    | ⟨1, _⟩ => exact (congrArg Fin.val (congrFun e ⟨1, show 1 < 6 by decide⟩)).symm
    | ⟨2, _⟩ => exact (congrArg Fin.val (congrFun e ⟨2, show 2 < 6 by decide⟩)).symm
    | ⟨3, _⟩ => exact (congrArg Fin.val (congrFun e ⟨3, show 3 < 6 by decide⟩)).symm
    | ⟨4, _⟩ => exact (congrArg Fin.val (congrFun e ⟨4, show 4 < 6 by decide⟩)).symm
    | ⟨5, _⟩ => exact (congrArg Fin.val (congrFun e ⟨5, show 5 < 6 by decide⟩)).symm
    | ⟨6, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl

/-- Rank seven, along the second axis. -/
theorem sum_second7 (h : (⟨7, ![n0, n1, n2, n3, n4, n5, n6]⟩ : Shape).ReducesTo [1] ⟨6, ![n0, n2, n3, n4, n5, n6]⟩)
    (x : (⟨7, ![n0, n1, n2, n3, n4, n5, n6]⟩ : Shape).Idx → EReal) (b : EReal)
    (i0 : Fin n0) (i2 : Fin n2) (i3 : Fin n3) (i4 : Fin n4) (i5 : Fin n5) (i6 : Fin n6) :
    Ideal.hostReduceAdd h x b (ix6 i0 i2 i3 i4 i5 i6) = b + ∑ k : Fin n1, x (ix7 i0 k i2 i3 i4 i5 i6) := by
  unfold Ideal.hostReduceAdd
  refine congrArg (b + ·) (Finset.sum_filter_eq_sum_of_fiber _ (fun k : Fin n1 => ix7 i0 k i2 i3 i4 i5 i6) (fun _ _ e => congrFun e 1)
    (fun i => ⟨fun e => ⟨i 1, ?_⟩, ?_⟩) x)
  · funext a; apply Fin.ext
    match a with
    | ⟨0, _⟩ => exact (congrArg Fin.val (congrFun e ⟨0, show 0 < 6 by decide⟩)).symm
    | ⟨1, _⟩ => rfl
    | ⟨2, _⟩ => exact (congrArg Fin.val (congrFun e ⟨1, show 1 < 6 by decide⟩)).symm
    | ⟨3, _⟩ => exact (congrArg Fin.val (congrFun e ⟨2, show 2 < 6 by decide⟩)).symm
    | ⟨4, _⟩ => exact (congrArg Fin.val (congrFun e ⟨3, show 3 < 6 by decide⟩)).symm
    | ⟨5, _⟩ => exact (congrArg Fin.val (congrFun e ⟨4, show 4 < 6 by decide⟩)).symm
    | ⟨6, _⟩ => exact (congrArg Fin.val (congrFun e ⟨5, show 5 < 6 by decide⟩)).symm
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl

/-- Rank six, along the fourth axis. -/
theorem sum_fourth6 (h : (⟨6, ![n0, n1, n2, n3, n4, n5]⟩ : Shape).ReducesTo [3] ⟨5, ![n0, n1, n2, n4, n5]⟩)
    (x : (⟨6, ![n0, n1, n2, n3, n4, n5]⟩ : Shape).Idx → EReal) (b : EReal)
    (i0 : Fin n0) (i1 : Fin n1) (i2 : Fin n2) (i4 : Fin n4) (i5 : Fin n5) :
    Ideal.hostReduceAdd h x b (ix5 i0 i1 i2 i4 i5) = b + ∑ k : Fin n3, x (ix6 i0 i1 i2 k i4 i5) := by
  unfold Ideal.hostReduceAdd
  refine congrArg (b + ·) (Finset.sum_filter_eq_sum_of_fiber _ (fun k : Fin n3 => ix6 i0 i1 i2 k i4 i5) (fun _ _ e => congrFun e 3)
    (fun i => ⟨fun e => ⟨i 3, ?_⟩, ?_⟩) x)
  · funext a; apply Fin.ext
    match a with
    | ⟨0, _⟩ => exact (congrArg Fin.val (congrFun e ⟨0, show 0 < 5 by decide⟩)).symm
    | ⟨1, _⟩ => exact (congrArg Fin.val (congrFun e ⟨1, show 1 < 5 by decide⟩)).symm
    | ⟨2, _⟩ => exact (congrArg Fin.val (congrFun e ⟨2, show 2 < 5 by decide⟩)).symm
    | ⟨3, _⟩ => rfl
    | ⟨4, _⟩ => exact (congrArg Fin.val (congrFun e ⟨3, show 3 < 5 by decide⟩)).symm
    | ⟨5, _⟩ => exact (congrArg Fin.val (congrFun e ⟨4, show 4 < 5 by decide⟩)).symm
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

end Cert.Caps

end
-- ==== Proof.RefRouting.lean ====
/- What the reference's routing computes: from any predictions, shares that are one. -/
module

public import proofs.«01_k».proof.Proof.Gen.ReferenceIdeal.Run
public import proofs.«01_k».proof.Proof.Reals
public import proofs.«01_k».proof.Proof.LineSums
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Caps

/-- The centred predictions over their deviation, scaled and shifted. -/
def normal (p : FVec Ideal S2x8x4x16x16x16x16 .f32) (g b : FVec Ideal S16 .f32) : FVec Ideal S2x8x4x16x16x16x16 .f32 :=
  addf (mulf (Host.divf p (broadcastInDim S2x8x4x16x16x16x16 ![0, 1, 2, 3, 4, 5, 6] bcast_S2x8x4x16x16x16x1_S2x8x4x16x16x16x16_0_1_2_3_4_5_6 (Host.sqrt (addf (Host.divf (broadcastInDim S2x8x4x16x16x16x1 ![0, 1, 2, 3, 4, 5] bcast_S2x8x4x16x16x16_S2x8x4x16x16x16x1_0_1_2_3_4_5 (Host.reduceAdd (mulf p p) (constant S_ .f32 0x00000000#32) reducesTo_S2x8x4x16x16x16x16_S2x8x4x16x16x16_d6 h_S_)) (broadcastInDim S2x8x4x16x16x16x1 ![] bcast_S_S2x8x4x16x16x16x1 (constant S_ .f32 0x41800000#32))) (broadcastInDim S2x8x4x16x16x16x1 ![] bcast_S_S2x8x4x16x16x16x1 (constant S_ .f32 0x3727C5AC#32)))))) (broadcastInDim S2x8x4x16x16x16x16 ![0, 1, 2, 3, 4, 5, 6] bcast_S1x1x1x1x1x1x16_S2x8x4x16x16x16x16_0_1_2_3_4_5_6 (broadcastInDim S1x1x1x1x1x1x16 ![6] bcast_S16_S1x1x1x1x1x1x16_6 g))) (broadcastInDim S2x8x4x16x16x16x16 ![0, 1, 2, 3, 4, 5, 6] bcast_S1x1x1x1x1x1x16_S2x8x4x16x16x16x16_0_1_2_3_4_5_6 (broadcastInDim S1x1x1x1x1x1x16 ![6] bcast_S16_S1x1x1x1x1x1x16_6 b))

/-- The affinities: the products of the capsules over the norm. -/
def affinity (p : FVec Ideal S2x8x4x16x16x16x16 .f32) : FVec Ideal S2x8x4x16x16x16x16 .f32 :=
  Host.divf (Host.dotGeneral dot_S2x8x4x16x16x16x16_S2x8x4x16x16x16x16_S2x8x4x16x16x16x16_6_6_5_5_01234_01234 none p p) (broadcastInDim S2x8x4x16x16x16x16 ![0, 1, 2, 3, 4, 5, 6] bcast_S2x8x4x16x16x16x1_S2x8x4x16x16x16x16_0_1_2_3_4_5_6 (maximumf (broadcastInDim S2x8x4x16x16x16x1 ![0, 1, 2, 3, 4, 5] bcast_S2x8x4x16x16x16_S2x8x4x16x16x16x1_0_1_2_3_4_5 (Host.reduceAdd (mulf p p) (constant S_ .f32 0x00000000#32) reducesTo_S2x8x4x16x16x16x16_S2x8x4x16x16x16_d6 h_S_)) (broadcastInDim S2x8x4x16x16x16x1 ![] bcast_S_S2x8x4x16x16x16x1 (constant S_ .f32 0x322BCC77#32))))

/-- A capsule's affinities summed. -/
def total (p : FVec Ideal S2x8x4x16x16x16x16 .f32) : FVec Ideal S2x8x4x16x16x16 .f32 :=
  Host.reduceAdd p (constant S_ .f32 0x00000000#32) reducesTo_S2x8x4x16x16x16x16_S2x8x4x16x16x16_d6 h_S_

/-- The mean of the weights at the indices. -/
def routed (w : FVec Ideal S2x8x4x16x16x16 .f32) (k : IVec S2x8x4x16x16x16x10x1 32) : FVec Ideal S2x8x4x16x16x16 .f32 :=
  Host.divf (Host.reduceAdd (Host.gather gather_S2x8x4x16x16x16_S2x8x4x16x16x16x10x1_S2x8x4x16x16x16x10_n_5_01234_01234_5_7_111111 w k) (constant S_ .f32 0x00000000#32) reducesTo_S2x8x4x16x16x16x10_S2x8x4x16x16x16_d6 h_S_) (broadcastInDim S2x8x4x16x16x16 ![] bcast_S_S2x8x4x16x16x16 (constant S_ .f32 0x41200000#32))

/-- The exponential of the weights. -/
def raised (w : FVec Ideal S2x8x4x16x16x16 .f32) : FVec Ideal S2x8x4x16x16x16x1 .f32 :=
  Host.exp (broadcastInDim S2x8x4x16x16x16x1 ![0, 1, 2, 3, 4, 5] bcast_S2x8x4x16x16x16_S2x8x4x16x16x16x1_0_1_2_3_4_5 w)

/-- The softmax of the weights over an axis of one. -/
def shares (w : FVec Ideal S2x8x4x16x16x16 .f32) : FVec Ideal S2x8x4x16x16x16x1 .f32 :=
  Host.divf (raised w) (broadcastInDim S2x8x4x16x16x16x1 ![0, 1, 2, 3, 4, 5] bcast_S2x8x4x16x16x16_S2x8x4x16x16x16x1_0_1_2_3_4_5 (Host.reduceAdd (raised w) (constant S_ .f32 0x00000000#32) reducesTo_S2x8x4x16x16x16x1_S2x8x4x16x16x16_d6 h_S_))

/-- Sums of reals along an axis are real. -/
theorem reduce_real {s t : Shape} {axes : List (Fin s.rank)} (h : s.ReducesTo axes t) (x : s.Idx → EReal) (hx : ∀ i, IsReal (x i))
    (j : t.Idx) : IsReal (Ideal.hostReduceAdd h x 0 j) := by
  unfold Ideal.hostReduceAdd
  rw [zero_add]
  exact IsReal.sum _ _ hx

/-- Summed affinities are real where the affinities are. -/
theorem total_real (p : FVec Ideal S2x8x4x16x16x16x16 .f32) (h : ∀ i, IsReal (p i)) (i : S2x8x4x16x16x16.Idx) : IsReal (total p i) := by
  pointwise [total]
  exact reduce_real _ p h i

/-- The mean of picked weights is real where the weights are, whatever the indices. -/
theorem routed_real (w : FVec Ideal S2x8x4x16x16x16 .f32) (k : IVec S2x8x4x16x16x16x10x1 32) (h : ∀ i, IsReal (w i)) (i : S2x8x4x16x16x16.Idx) :
    IsReal (routed w k i) := by
  pointwise [routed]
  rw [ten_f32]
  exact (reduce_real _ _ (fun j => h _) i).div ⟨10, rfl⟩ (EReal.coe_pos.mpr (by norm_num))

/-- The raised weights at an index. -/
theorem raised_apply (w : FVec Ideal S2x8x4x16x16x16 .f32) (i0 : Fin 2) (i1 : Fin 8) (i2 : Fin 4) (i3 i4 i5 : Fin 16) (i6 : Fin 1) :
    raised w (ix7 i0 i1 i2 i3 i4 i5 i6) = Ideal.exp (w (ix6 i0 i1 i2 i3 i4 i5)) := by
  pointwise [raised]

/-- The shares are one where the weights are real. -/
theorem shares_one (w : FVec Ideal S2x8x4x16x16x16 .f32) (h : ∀ i, IsReal (w i)) (i0 : Fin 2) (i1 : Fin 8) (i2 : Fin 4) (i3 i4 i5 : Fin 16) (i6 : Fin 1) :
    shares w (ix7 i0 i1 i2 i3 i4 i5 i6) = (1 : EReal) := by
  pointwise [shares]
  have e := sum_last7 reducesTo_S2x8x4x16x16x16x1_S2x8x4x16x16x16_d6 (raised w) 0 i0 i1 i2 i3 i4 i5
  rw [Fin.sum_univ_one, zero_add, raised_apply] at e
  rw [raised_apply, e]
  exact exp_div_exp (h _)

/-- The affinity of two capsules. -/
theorem affinity_apply (p : FVec Ideal S2x8x4x16x16x16x16 .f32) (i0 : Fin 2) (i1 : Fin 8) (i2 : Fin 4) (i3 i4 i5 i6 : Fin 16) :
    affinity p (ix7 i0 i1 i2 i3 i4 i5 i6)
      = Ideal.div (∑ d : Fin 16, p (ix7 i0 i1 i2 i3 i4 i5 d) * p (ix7 i0 i1 i2 i3 i4 i6 d))
          (max (∑ d : Fin 16, p (ix7 i0 i1 i2 i3 i4 i5 d) * p (ix7 i0 i1 i2 i3 i4 i5 d)) (Ideal.ofBits .f32 0x322BCC77#32)) := by
  have e := sum_last7 reducesTo_S2x8x4x16x16x16x16_S2x8x4x16x16x16_d6 (mulf p p) 0 i0 i1 i2 i3 i4 i5
  rw [zero_add] at e
  pointwise [affinity]
  rw [e]
  rfl

/-- The normalised predictions at an index. -/
theorem normal_apply (p : FVec Ideal S2x8x4x16x16x16x16 .f32) (g b : FVec Ideal S16 .f32) (i0 : Fin 2) (i1 : Fin 8) (i2 : Fin 4) (i3 i4 i5 i6 : Fin 16) :
    normal p g b (ix7 i0 i1 i2 i3 i4 i5 i6)
      = Ideal.div (p (ix7 i0 i1 i2 i3 i4 i5 i6))
          (Ideal.sqrt (Ideal.div (∑ d : Fin 16, p (ix7 i0 i1 i2 i3 i4 i5 d) * p (ix7 i0 i1 i2 i3 i4 i5 d)) (Ideal.ofBits .f32 0x41800000#32)
            + Ideal.ofBits .f32 0x3727C5AC#32)) * g (ix1 i6) + b (ix1 i6) := by
  have e := sum_last7 reducesTo_S2x8x4x16x16x16x16_S2x8x4x16x16x16_d6 (mulf p p) 0 i0 i1 i2 i3 i4 i5
  rw [zero_add] at e
  pointwise [normal]
  rw [e]
  rfl

/-- The affinities of the normalised predictions are real, whatever the predictions and the shift. -/
theorem affinity_normal_real (p : FVec Ideal S2x8x4x16x16x16x16 .f32) (g b : FVec Ideal S16 .f32) (h : ∀ i, IsReal (g i)) (i : S2x8x4x16x16x16x16.Idx) :
    IsReal (affinity (normal p g b) i) := by
  obtain ⟨i0, i1, i2, i3, i4, i5, i6, rfl⟩ : ∃ (i0 : Fin 2) (i1 : Fin 8) (i2 : Fin 4) (i3 i4 i5 i6 : Fin 16), i = ix7 i0 i1 i2 i3 i4 i5 i6 :=
    ⟨i 0, i 1, i 2, i 3, i 4, i 5, i 6, eq_ix7 i⟩
  obtain ⟨e, he, he'⟩ := eps_f32
  obtain ⟨t, ht, ht'⟩ := tiny_f32
  have hu : ∀ (j : Fin 16) (d : Fin 16), IsReal (Ideal.div (p (ix7 i0 i1 i2 i3 i4 j d))
      (Ideal.sqrt (Ideal.div (∑ d : Fin 16, p (ix7 i0 i1 i2 i3 i4 j d) * p (ix7 i0 i1 i2 i3 i4 j d)) (Ideal.ofBits .f32 0x41800000#32)
        + Ideal.ofBits .f32 0x3727C5AC#32)) * g (ix1 d)) := fun j d =>
    (normal_real (fun d => p (ix7 i0 i1 i2 i3 i4 j d)) d ⟨16, sixteen_f32⟩ (by rw [sixteen_f32]; exact EReal.coe_pos.mpr (by norm_num))
      ⟨e, he'⟩ (by rw [he']; exact EReal.coe_pos.mpr he)).mul (h _)
  rw [affinity_apply]
  simp only [normal_apply]
  exact affinity_real _ _ (fun d => b (ix1 d)) (hu i5) (hu i6) ⟨t, ht'⟩ (by rw [ht']; exact EReal.coe_pos.mpr ht)

end Cert.ReferenceIdeal.Hand

end
-- ==== Proof.RefValue.lean ====
/- What the reference computes: the squash of the predictions summed over the input capsules. -/
module

public import proofs.«01_k».proof.Proof.RefRouting
public import proofs.«01_k».proof.Proof.RefConv
public import proofs.«01_k».proof.Proof.Squash

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Caps

/-- The predictions with their shares, summed over the input capsules. -/
def joined (u : FVec Ideal S2x8x4x16x16x16x1 .f32) (p : FVec Ideal S2x16x8x16x4x16x16 .f32) : FVec Ideal S2x8x16x4x16x16 .f32 :=
  Host.reduceAdd (mulf (broadcastInDim S2x16x8x16x4x16x16 ![0, 1, 2, 3, 4, 5, 6] bcast_S2x16x8x1x4x16x16_S2x16x8x16x4x16x16_0_1_2_3_4_5_6 (transpose S2x16x8x1x4x16x16 [0, 5, 1, 6, 2, 3, 4] u transposes_S2x8x4x16x16x16x1_S2x16x8x1x4x16x16_0_5_1_6_2_3_4)) p) (constant S_ .f32 0x00000000#32) reducesTo_S2x16x8x16x4x16x16_S2x8x16x4x16x16_d1 h_S_

/-- The root of the squares summed over the rotations. -/
def length (y : FVec Ideal S2x8x16x4x16x16 .f32) : FVec Ideal S2x8x16x1x16x16 .f32 :=
  Host.sqrt (broadcastInDim S2x8x16x1x16x16 ![0, 1, 2, 4, 5] bcast_S2x8x16x16x16_S2x8x16x1x16x16_0_1_2_4_5 (Host.reduceAdd (mulf y y) (constant S_ .f32 0x00000000#32) reducesTo_S2x8x16x4x16x16_S2x8x16x16x16_d3 h_S_))

/-- The squash over the rotations. -/
def squashed (y : FVec Ideal S2x8x16x4x16x16 .f32) : FVec Ideal S2x8x16x4x16x16 .f32 :=
  mulf (broadcastInDim S2x8x16x4x16x16 ![0, 1, 2, 3, 4, 5] bcast_S2x8x16x1x16x16_S2x8x16x4x16x16_0_1_2_3_4_5 (Host.divf (Host.divf (mulf (length y) (length y)) (addf (broadcastInDim S2x8x16x1x16x16 ![] bcast_S_S2x8x16x1x16x16 (constant S_ .f32 0x3F800000#32)) (mulf (length y) (length y)))) (addf (length y) (broadcastInDim S2x8x16x1x16x16 ![] bcast_S_S2x8x16x1x16x16 (constant S_ .f32 0x322BCC77#32))))) y

/-- Where every share is one, the sum of the predictions. -/
theorem joined_apply (u : FVec Ideal S2x8x4x16x16x16x1 .f32) (p : FVec Ideal S2x16x8x16x4x16x16 .f32)
    (h : ∀ i0 i1 i2 i3 i4 i5 i6, u (ix7 i0 i1 i2 i3 i4 i5 i6) = (1 : EReal))
    (n : Fin 2) (a : Fin 8) (d : Fin 16) (s : Fin 4) (v w : Fin 16) :
    joined u p (ix6 n a d s v w) = ∑ k : Fin 16, p (ix7 n k a d s v w) := by
  pointwise [joined]
  rw [sum_second7, zero_add]
  refine Finset.sum_congr rfl fun k _ => ?_
  pointwise
  rw [h, one_mul]

/-- The length at an index. -/
theorem length_apply (y : FVec Ideal S2x8x16x4x16x16 .f32) (n : Fin 2) (a : Fin 8) (d : Fin 16) (s : Fin 1) (v w : Fin 16) :
    length y (ix6 n a d s v w) = Ideal.sqrt (∑ k : Fin 4, y (ix6 n a d k v w) * y (ix6 n a d k v w)) := by
  have e := sum_fourth6 reducesTo_S2x8x16x4x16x16_S2x8x16x16x16_d3 (mulf y y) 0 n a d v w
  rw [zero_add] at e
  pointwise [length]
  rw [e]
  rfl

/-- The squash over the rotations at an index. -/
theorem squashed_apply (y : FVec Ideal S2x8x16x4x16x16 .f32) (n : Fin 2) (a : Fin 8) (d : Fin 16) (s : Fin 4) (v w : Fin 16) :
    squashed y (ix6 n a d s v w) = squash (fun k => y (ix6 n a d k v w)) s := by
  pointwise [squashed]
  rw [length_apply, sqrt_mul_sqrt (sum_sq_nonneg Finset.univ fun k => y (ix6 n a d k v w)), mul_comm]
  rfl

/-- The run's term for the result. -/
theorem result_eq (V0 : Valuation τ sig (Elt Ideal)) (hg : ∀ i : S16.Idx, IsReal ((V0 (Proc.devRef .tc main_arg3) : FVec Ideal S16 .f32) i))
    (n : Fin 2) (a : Fin 8) (d : Fin 16) (s : Fin 4) (v w : Fin 16) :
    (mulf (broadcastInDim S2x8x16x4x16x16 ![0, 1, 2, 3, 4, 5] bcast_S2x8x16x1x16x16_S2x8x16x4x16x16_0_1_2_3_4_5 (Host.divf (Host.divf (mulf (res_main_v86 V0) (res_main_v86 V0)) (addf (broadcastInDim S2x8x16x1x16x16 ![] bcast_S_S2x8x16x1x16x16 (constant S_ .f32 0x3F800000#32)) (mulf (res_main_v86 V0) (res_main_v86 V0)))) (addf (res_main_v86 V0) (broadcastInDim S2x8x16x1x16x16 ![] bcast_S_S2x8x16x1x16x16 (constant S_ .f32 0x322BCC77#32))))) (res_main_v82 V0) : FVec Ideal S2x8x16x4x16x16 .f32) (ix6 n a d s v w)
      = squash (fun r => ∑ k : Fin 16, preds (V0 (Proc.devRef .tc main_arg0)) (V0 (Proc.devRef .tc main_arg1)) (V0 (Proc.devRef .tc main_arg2))
          (ix7 n k a d r v w)) s := by
  have e75 : res_main_v75 V0 = raised (routed (routed (total (res_main_v62 V0)) (broadcastInDim S2x8x4x16x16x16x10x1 ![0, 1, 2, 3, 4, 5, 6] bcast_S2x8x4x16x16x16x10_S2x8x4x16x16x16x10x1_0_1_2_3_4_5_6 (res_main_indices V0)))
      (broadcastInDim S2x8x4x16x16x16x10x1 ![0, 1, 2, 3, 4, 5, 6] bcast_S2x8x4x16x16x16x10_S2x8x4x16x16x16x10x1_0_1_2_3_4_5_6 (res_main_indices V0))) := rfl
  have e62 : res_main_v62 V0 = affinity (normal (res_main_v38 V0) (V0 (Proc.devRef .tc main_arg3)) (V0 (Proc.devRef .tc main_arg4))) := rfl
  have h62 : ∀ i, IsReal ((res_main_v62 V0 : FVec Ideal S2x8x4x16x16x16x16 .f32) i) := fun i => by
    rw [e62]; exact affinity_normal_real _ _ _ hg i
  have hw := routed_real _ (broadcastInDim S2x8x4x16x16x16x10x1 ![0, 1, 2, 3, 4, 5, 6] bcast_S2x8x4x16x16x16x10_S2x8x4x16x16x16x10x1_0_1_2_3_4_5_6 (res_main_indices V0))
    (routed_real _ (broadcastInDim S2x8x4x16x16x16x10x1 ![0, 1, 2, 3, 4, 5, 6] bcast_S2x8x4x16x16x16x10_S2x8x4x16x16x16x10x1_0_1_2_3_4_5_6 (res_main_indices V0)) (total_real _ h62))
  have e82 : res_main_v82 V0 = joined (shares (routed (routed (total (res_main_v62 V0)) (broadcastInDim S2x8x4x16x16x16x10x1 ![0, 1, 2, 3, 4, 5, 6] bcast_S2x8x4x16x16x16x10_S2x8x4x16x16x16x10x1_0_1_2_3_4_5_6 (res_main_indices V0)))
      (broadcastInDim S2x8x4x16x16x16x10x1 ![0, 1, 2, 3, 4, 5, 6] bcast_S2x8x4x16x16x16x10_S2x8x4x16x16x16x10x1_0_1_2_3_4_5_6 (res_main_indices V0)))) (res_main_v31 V0) := by
    unfold res_main_v82
    rw [e75]
    rfl
  have e86 : res_main_v86 V0 = length (res_main_v82 V0) := rfl
  rw [e86]
  refine (squashed_apply (res_main_v82 V0) n a d s v w).trans ?_
  rw [e82]
  simp only [joined_apply _ _ (shares_one _ hw), preds_eq]

end Cert.ReferenceIdeal.Hand

end
-- ==== Proof.Equation.lean ====
/- The kernel's result is the reference's. -/
module

public import proofs.«01_k».proof.Proof.KernelValue
public import proofs.«01_k».proof.Proof.RefValue

@[expose] public section

set_option maxRecDepth 16384

noncomputable section

namespace Cert.KernelIdeal.Hand

open Cert.KernelIdeal Cert.KernelIdeal.Gen
open Idealize.ShloMosaic Idealize.ShloMosaic.TcCoe
open Cert.Caps
open Cert.ReferenceIdeal.Hand (preds)

variable (m : (ℓ : Loc nD τ sig) → Buf (Elt Ideal) ℓ) (c : Dev nD)

/-- The kernel's result at an index: the squash of the predictions summed over the input capsules. -/
theorem value_apply (hw : ∀ i, IsReal (kernels m c i)) (n : Fin 2) (a : Fin 8) (d : Fin 16) (s : Fin 4) (p q : Fin 16) :
    Pipeline.afterTail₀ cfgs (dats m) 0 (V0 m) [hostOps1] c main_v0 (ix6 n a d s p q)
      = squash (fun r => ∑ k : Fin 16, preds (images m c) (kernels m c) (biases m c) (ix7 n k a d r p q)) s := by
  rw [result_apply, block_apply]
  exact (squash_alike _ _ (fun r => linear_apply m c hw n a d r p q) s).symm

end Cert.KernelIdeal.Hand

end
-- ==== Proof.Claims.lean ====
/- The claims of the idealized kernel and of the reference. -/
module

public import proofs.«01_k».proof.Proof.Precondition
public import proofs.«01_k».proof.Proof.Equation
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem
open Cert.KernelIdeal.Gen Cert.ReferenceIdeal.Gen Cert.Caps
open Idealize.ShloMosaic.StableHlo (launchContents)

/-- The reference ends, its arguments unchanged and its semaphore counters at zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The kernel's result on a device. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  Pipeline.afterTail₀ Cert.KernelIdeal.cfgs (Cert.KernelIdeal.Hand.dats m) 0 (Cert.KernelIdeal.Gen.V0 m) [Cert.KernelIdeal.Gen.hostOps1] c Cert.KernelIdeal.main_v0

/-- The kernel and the reference, from equal arguments of which the bounded ones are finite, end with equal results. -/
theorem equal : Cert.algebraic_KernelIdeal_ReferenceIdeal_pre_finite := by
  intro m g m' g' hpre hagree
  refine ⟨result m, (θ_run _ _ _).mono (fun r h c => ⟨?_, h.2.1 c⟩)
    (θ_run_and (Cert.KernelIdeal.Hand.run_main m g) (Cert.KernelIdeal.Hand.frame_main m g)),
    (θ_run _ _ _).mono (fun r h c => ⟨(h c).1.trans ?_, (h c).2⟩) (Cert.ReferenceIdeal.Value.run m' g')⟩
  · exact (h.1.1 c).2 Cert.KernelIdeal.main_v0 (Pipeline.mem_restRefs_of Cert.KernelIdeal.main_v0 (by decide) (by decide))
  · obtain ⟨hw, hg⟩ := Cert.Pre_finite.Hand.reals _ _ _ _ _ (hpre c)
    obtain ⟨e0, e1, e2, e3, -⟩ := hagree c
    funext i
    obtain ⟨n, a, d, s, v, w, rfl⟩ : ∃ n a d s v w, i = ix6 n a d s v w := ⟨_, _, _, _, _, _, eq_ix6 i⟩
    refine (Cert.ReferenceIdeal.Hand.result_eq (launchContents m' c) (fun j => ?_) n a d s v w).trans ?_
    · have : IsReal ((m' ((c.tc : Thread Cert.ReferenceIdeal.nD Cert.ReferenceIdeal.τ).loc Cert.ReferenceIdeal.main_arg3) : FVec Ideal Cert.ReferenceIdeal.S16 .f32) j) := by
        rw [e3]; exact hg j
      exact this
    · refine Eq.trans ?_ (Cert.KernelIdeal.Hand.value_apply m c hw n a d s v w).symm
      refine congrArg (fun y => squash y s) (funext fun r => Finset.sum_congr rfl fun k _ => ?_)
      show Cert.ReferenceIdeal.Hand.preds (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) _ = _
      rw [e0, e1, e2]

end Cert.Proof

end
-- ==== Proof.lean ====
module

public import proofs.«01_k».proof.Defs
public import proofs.«01_k».proof.Proof.KernelFrame
public import proofs.«01_k».proof.Proof.Claims

@[expose] public section

noncomputable section

namespace Cert.Proof

open Idealize.ShloMosaic Idealize.SL.Sem

/-- The claims, in their order. -/
theorem claim : Cert.Claim := ⟨Cert.Kernel.Gen.facts, Cert.KernelIdeal.Gen.facts, Cert.ReferenceIdeal.Gen.facts, Cert.Pre_finite.Hand.facts,
  Cert.Kernel.Hand.frame,
  fun m g _ => Cert.KernelIdeal.Hand.frame_main m g,
  fun m g _ => Cert.KernelIdeal.Hand.frame_main m g,
  reference_frame,
  fun m g _ => reference_frame m g trivial,
  trivial,
  equal⟩

end Cert.Proof

end
